-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v118)) (v1 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_v120) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x384 : Shape := ⟨2, ![8192, 384]⟩
abbrev S384 : Shape := ⟨1, ![384]⟩
abbrev S128x768 : Shape := ⟨2, ![128, 768]⟩
abbrev S128 : Shape := ⟨1, ![128]⟩
abbrev S5x128 : Shape := ⟨2, ![5, 128]⟩
abbrev S5 : Shape := ⟨1, ![5]⟩
abbrev S_ : Shape := ⟨0, ![]⟩
abbrev S8192 : Shape := ⟨1, ![8192]⟩
abbrev S8192x1 : Shape := ⟨2, ![8192, 1]⟩
abbrev S8x128 : Shape := ⟨2, ![8, 128]⟩
abbrev S1 : Shape := ⟨1, ![1]⟩
abbrev S1x8 : Shape := ⟨2, ![1, 8]⟩
abbrev S2 : Shape := ⟨1, ![2]⟩
abbrev S1x384 : Shape := ⟨2, ![1, 384]⟩
abbrev S1x128 : Shape := ⟨2, ![1, 128]⟩
abbrev S8192x8 : Shape := ⟨2, ![8192, 8]⟩
abbrev S256x384 : Shape := ⟨2, ![256, 384]⟩
abbrev S256x8 : Shape := ⟨2, ![256, 8]⟩
abbrev S256x8192 : Shape := ⟨2, ![256, 8192]⟩
abbrev S256 : Shape := ⟨1, ![256]⟩
abbrev S256x1 : Shape := ⟨2, ![256, 1]⟩
abbrev S256x5 : Shape := ⟨2, ![256, 5]⟩
abbrev S256x3 : Shape := ⟨2, ![256, 3]⟩
abbrev S256x768 : Shape := ⟨2, ![256, 768]⟩
abbrev S256x128 : Shape := ⟨2, ![256, 128]⟩
abbrev S8192x5 : Shape := ⟨2, ![8192, 5]⟩
abbrev S8192x5x1 : Shape := ⟨3, ![8192, 5, 1]⟩
abbrev S8192x1x5 : Shape := ⟨3, ![8192, 1, 5]⟩
abbrev S8192x5x5 : Shape := ⟨3, ![8192, 5, 5]⟩
abbrev S8192x1x1 : Shape := ⟨3, ![8192, 1, 1]⟩
abbrev S1x5 : Shape := ⟨2, ![1, 5]⟩
abbrev S8192x5x2 : Shape := ⟨3, ![8192, 5, 2]⟩

abbrev nBuf : Space → Nat
  | .hbm => 181
  | .vmem => 12
  | .smem => 0
  | _ => 0

abbrev hbmTy0_0 (i : Nat) : BufTy := match i % 128 with
  | 0 => ⟨S8192x384, .f32⟩
  | 1 => ⟨S384, .f32⟩
  | 2 => ⟨S128x768, .f32⟩
  | 3 => ⟨S128, .f32⟩
  | 4 => ⟨S5x128, .f32⟩
  | 5 => ⟨S5, .f32⟩
  | 6 => ⟨S8192x384, .f32⟩
  | 7 => ⟨S_, .f32⟩
  | 8 => ⟨S8192, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x384, .f32⟩
  | 15 => ⟨S8192x384, .f32⟩
  | 16 => ⟨S_, .f32⟩
  | 17 => ⟨S8x128, .f32⟩
  | 18 => ⟨S_, .i32⟩
  | 19 => ⟨S1, .i32⟩
  | 20 => ⟨S8x128, .f32⟩
  | 21 => ⟨S_, .f32⟩
  | 22 => ⟨S1x8, .f32⟩
  | 23 => ⟨S_, .i32⟩
  | 24 => ⟨S1, .i32⟩
  | 25 => ⟨S_, .i32⟩
  | 26 => ⟨S1, .i32⟩
  | 27 => ⟨S2, .i32⟩
  | 28 => ⟨S1x8, .f32⟩
  | 29 => ⟨S8192x384, .bf16⟩
  | 30 => ⟨S8192x384, .bf16⟩
  | 31 => ⟨S1x384, .f32⟩
  | 32 => ⟨S1x384, .bf16⟩
  | 33 => ⟨S128x768, .bf16⟩
  | 34 => ⟨S1x128, .f32⟩
  | 35 => ⟨S8x128, .bf16⟩
  | 36 => ⟨S8192x8, .i32⟩
  | 37 => ⟨S8192x8, .f32⟩
  | 38 => ⟨S8192x5, .i32⟩
  | 39 => ⟨S8192x5, .f32⟩
  | 40 => ⟨S8192x5, .f32⟩
  | 41 => ⟨S_, .f32⟩
  | 42 => ⟨S8192, .f32⟩
  | 43 => ⟨S8192, .f32⟩
  | 44 => ⟨S_, .f32⟩
  | 45 => ⟨S8192, .f32⟩
  | 46 => ⟨S8192, .i1⟩
  | 47 => ⟨S8192, .i1⟩
  | 48 => ⟨S8192, .i1⟩
  | 49 => ⟨S8192x1, .i1⟩
  | 50 => ⟨S_, .f32⟩
  | 51 => ⟨S8192x5, .f32⟩
  | 52 => ⟨S8192x5, .i1⟩
  | 53 => ⟨S8192x5, .f32⟩
  | 54 => ⟨S8192x5x1, .f32⟩
  | 55 => ⟨S8192x1x5, .f32⟩
  | 56 => ⟨S8192x5x5, .f32⟩
  | 57 => ⟨S8192x5x5, .f32⟩
  | 58 => ⟨S8192x5x5, .f32⟩
  | 59 => ⟨S8192x5x5, .f32⟩
  | 60 => ⟨S_, .f32⟩
  | 61 => ⟨S8192, .f32⟩
  | 62 => ⟨S8192, .f32⟩
  | 63 => ⟨S8192x1x1, .f32⟩
  | 64 => ⟨S8192x5x5, .f32⟩
  | 65 => ⟨S8192x5x5, .f32⟩
  | 66 => ⟨S_, .f32⟩
  | 67 => ⟨S8192x5, .f32⟩
  | 68 => ⟨S_, .f32⟩
  | 69 => ⟨S8192x5, .f32⟩
  | 70 => ⟨S8192x5, .f32⟩
  | 71 => ⟨S5, .i32⟩
  | 72 => ⟨S1x5, .i32⟩
  | 73 => ⟨S8192x5, .i32⟩
  | 74 => ⟨S8192x1x5, .f32⟩
  | 75 => ⟨S8192x5x5, .f32⟩
  | 76 => ⟨S8192x5x5, .f32⟩
  | 77 => ⟨S_, .f32⟩
  | 78 => ⟨S8192x5, .f32⟩
  | 79 => ⟨S_, .f32⟩
  | 80 => ⟨S8192x5, .f32⟩
  | 81 => ⟨S_, .i32⟩
  | 82 => ⟨S8192x5, .i32⟩
  | 83 => ⟨S8192x5, .i1⟩
  | 84 => ⟨S_, .i32⟩
  | 85 => ⟨S8192x5, .i32⟩
  | 86 => ⟨S8192x5, .i32⟩
  | 87 => ⟨S8192x5, .i32⟩
  | 88 => ⟨S_, .i32⟩
  | 89 => ⟨S8192x5, .i32⟩
  | 90 => ⟨S8192x5, .i1⟩
  | 91 => ⟨S_, .i32⟩
  | 92 => ⟨S8192x5, .i32⟩
  | 93 => ⟨S8192x5, .i32⟩
  | 94 => ⟨S8192x5, .i32⟩
  | 95 => ⟨S8192x5x1, .i32⟩
  | 96 => ⟨S8192x5x1, .i32⟩
  | 97 => ⟨S8192x5x2, .i32⟩
  | 98 => ⟨S8192x5, .f32⟩
  | 99 => ⟨S8192x5, .f32⟩
  | 100 => ⟨S_, .f32⟩
  | 101 => ⟨S_, .f32⟩
  | 102 => ⟨S_, .f32⟩
  | 103 => ⟨S_, .f32⟩
  | 104 => ⟨S_, .i1⟩
  | 105 => ⟨S_, .f32⟩
  | 106 => ⟨S_, .f32⟩
  | 107 => ⟨S8192x5, .f32⟩
  | 108 => ⟨S8192x5, .f32⟩
  | 109 => ⟨S8192x5, .f32⟩
  | 110 => ⟨S8192x5, .f32⟩
  | 111 => ⟨S_, .f32⟩
  | 112 => ⟨S8192x5, .f32⟩
  | 113 => ⟨S_, .i32⟩
  | 114 => ⟨S8192x5, .i32⟩
  | 115 => ⟨S8192x5, .i1⟩
  | 116 => ⟨S_, .i32⟩
  | 117 => ⟨S8192x5, .i32⟩
  | 118 => ⟨S8192x5, .i32⟩
  | 119 => ⟨S8192x5, .i32⟩
  | 120 => ⟨S_, .i32⟩
  | 121 => ⟨S8192x5, .i32⟩
  | 122 => ⟨S8192x5, .i1⟩
  | 123 => ⟨S_, .i32⟩
  | 124 => ⟨S8192x5, .i32⟩
  | 125 => ⟨S8192x5, .i32⟩
  | 126 => ⟨S8192x5, .i32⟩
  | 127 => ⟨S8192x5x1, .i32⟩
  | _ => ⟨S8192x384, .f32⟩

abbrev hbmTy0_1 (i : Nat) : BufTy := match i % 128 with
  | 0 => ⟨S8192x5x1, .i32⟩
  | 1 => ⟨S8192x5x2, .i32⟩
  | 2 => ⟨S8192x5, .f32⟩
  | 3 => ⟨S8192x5, .f32⟩
  | 4 => ⟨S_, .f32⟩
  | 5 => ⟨S_, .f32⟩
  | 6 => ⟨S_, .f32⟩
  | 7 => ⟨S_, .f32⟩
  | 8 => ⟨S_, .i1⟩
  | 9 => ⟨S_, .f32⟩
  | 10 => ⟨S_, .f32⟩
  | 11 => ⟨S8192x5, .f32⟩
  | 12 => ⟨S8192x5, .f32⟩
  | 13 => ⟨S8192x5, .f32⟩
  | 14 => ⟨S8192x5, .f32⟩
  | 15 => ⟨S_, .f32⟩
  | 16 => ⟨S8192x5, .f32⟩
  | 17 => ⟨S_, .i32⟩
  | 18 => ⟨S8192x5, .i32⟩
  | 19 => ⟨S8192x5, .i1⟩
  | 20 => ⟨S_, .i32⟩
  | 21 => ⟨S8192x5, .i32⟩
  | 22 => ⟨S8192x5, .i32⟩
  | 23 => ⟨S8192x5, .i32⟩
  | 24 => ⟨S_, .i32⟩
  | 25 => ⟨S8192x5, .i32⟩
  | 26 => ⟨S8192x5, .i1⟩
  | 27 => ⟨S_, .i32⟩
  | 28 => ⟨S8192x5, .i32⟩
  | 29 => ⟨S8192x5, .i32⟩
  | 30 => ⟨S8192x5, .i32⟩
  | 31 => ⟨S8192x5x1, .i32⟩
  | 32 => ⟨S8192x5x1, .i32⟩
  | 33 => ⟨S8192x5x2, .i32⟩
  | 34 => ⟨S8192x5, .f32⟩
  | 35 => ⟨S8192x5, .f32⟩
  | 36 => ⟨S_, .f32⟩
  | 37 => ⟨S_, .f32⟩
  | 38 => ⟨S_, .f32⟩
  | 39 => ⟨S_, .f32⟩
  | 40 => ⟨S_, .i1⟩
  | 41 => ⟨S_, .f32⟩
  | 42 => ⟨S_, .f32⟩
  | 43 => ⟨S8192x5, .f32⟩
  | 44 => ⟨S8192x5, .f32⟩
  | 45 => ⟨S8192x5, .f32⟩
  | 46 => ⟨S8192x5, .f32⟩
  | 47 => ⟨S_, .f32⟩
  | 48 => ⟨S8192, .f32⟩
  | 49 => ⟨S8192, .f32⟩
  | 50 => ⟨S8192, .i32⟩
  | 51 => ⟨S8192, .f32⟩
  | 52 => ⟨S8192, .i32⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | .local _ .vmem, ⟨0, _⟩ => ⟨S8192x384, .bf16⟩
  | .local _ .vmem, ⟨1, _⟩ => ⟨S256x384, .bf16⟩
  | .local _ .vmem, ⟨2, _⟩ => ⟨S256x384, .bf16⟩
  | .local _ .vmem, ⟨3, _⟩ => ⟨S1x384, .bf16⟩
  | .local _ .vmem, ⟨4, _⟩ => ⟨S128x768, .bf16⟩
  | .local _ .vmem, ⟨5, _⟩ => ⟨S1x128, .f32⟩
  | .local _ .vmem, ⟨6, _⟩ => ⟨S8x128, .bf16⟩
  | .local _ .vmem, ⟨7, _⟩ => ⟨S1x8, .f32⟩
  | .local _ .vmem, ⟨8, _⟩ => ⟨S256x8, .i32⟩
  | .local _ .vmem, ⟨9, _⟩ => ⟨S256x8, .i32⟩
  | .local _ .vmem, ⟨10, _⟩ => ⟨S256x8, .f32⟩
  | .local _ .vmem, ⟨11, _⟩ => ⟨S256x8, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v21 : Ref sig .tc := ⟨.hbm, 38, rfl⟩
abbrev main_v22 : Ref sig .tc := ⟨.hbm, 39, rfl⟩
abbrev main_call1_v0 : Ref sig .tc := ⟨.hbm, 40, rfl⟩
abbrev main_call1_cst : Ref sig .tc := ⟨.hbm, 41, rfl⟩
abbrev main_call1_v1 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_call2_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_c_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_13 : Ref sig .tc := ⟨.hbm, 88, rfl⟩
abbrev main_v58 : Ref sig .tc := ⟨.hbm, 89, rfl⟩
abbrev main_v59 : Ref sig .tc := ⟨.hbm, 90, rfl⟩
abbrev main_c_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call3_v0 : Ref sig .tc := ⟨.hbm, 99, rfl⟩
abbrev main_call3_cst : Ref sig .tc := ⟨.hbm, 100, rfl⟩
abbrev main_call3_v1 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_cst_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_17 : Ref sig .tc := ⟨.hbm, 111, rfl⟩
abbrev main_v74 : Ref sig .tc := ⟨.hbm, 112, rfl⟩
abbrev main_c_18 : Ref sig .tc := ⟨.hbm, 113, rfl⟩
abbrev main_v75 : Ref sig .tc := ⟨.hbm, 114, rfl⟩
abbrev main_v76 : Ref sig .tc := ⟨.hbm, 115, rfl⟩
abbrev main_c_19 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_20 : Ref sig .tc := ⟨.hbm, 120, rfl⟩
abbrev main_v80 : Ref sig .tc := ⟨.hbm, 121, rfl⟩
abbrev main_v81 : Ref sig .tc := ⟨.hbm, 122, rfl⟩
abbrev main_c_21 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_call5_v0 : Ref sig .tc := ⟨.hbm, 131, rfl⟩
abbrev main_call5_cst : Ref sig .tc := ⟨.hbm, 132, rfl⟩
abbrev main_call5_v1 : Ref sig .tc := ⟨.hbm, 133, rfl⟩
abbrev main_v89 : Ref sig .tc := ⟨.hbm, 134, rfl⟩
abbrev main_cst_22 : Ref sig .tc := ⟨.hbm, 135, rfl⟩
abbrev main_v90 : Ref sig .tc := ⟨.hbm, 136, rfl⟩
abbrev main_cst_23 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_24 : Ref sig .tc := ⟨.hbm, 143, rfl⟩
abbrev main_v96 : Ref sig .tc := ⟨.hbm, 144, rfl⟩
abbrev main_c_25 : Ref sig .tc := ⟨.hbm, 145, rfl⟩
abbrev main_v97 : Ref sig .tc := ⟨.hbm, 146, rfl⟩
abbrev main_v98 : Ref sig .tc := ⟨.hbm, 147, rfl⟩
abbrev main_c_26 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_c_27 : Ref sig .tc := ⟨.hbm, 152, rfl⟩
abbrev main_v102 : Ref sig .tc := ⟨.hbm, 153, rfl⟩
abbrev main_v103 : Ref sig .tc := ⟨.hbm, 154, rfl⟩
abbrev main_c_28 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_call7_v0 : Ref sig .tc := ⟨.hbm, 163, rfl⟩
abbrev main_call7_cst : Ref sig .tc := ⟨.hbm, 164, rfl⟩
abbrev main_call7_v1 : Ref sig .tc := ⟨.hbm, 165, rfl⟩
abbrev main_v111 : Ref sig .tc := ⟨.hbm, 166, rfl⟩
abbrev main_cst_29 : Ref sig .tc := ⟨.hbm, 167, rfl⟩
abbrev main_v112 : Ref sig .tc := ⟨.hbm, 168, rfl⟩
abbrev main_cst_30 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_31 : Ref sig .tc := ⟨.hbm, 175, rfl⟩
abbrev main_v118 : Ref sig .tc := ⟨.hbm, 176, rfl⟩
abbrev main_v119 : Ref sig .tc := ⟨.hbm, 177, rfl⟩
abbrev main_call9_v0 : Ref sig .tc := ⟨.hbm, 178, rfl⟩
abbrev main_call9_v1_0 : Ref sig .tc := ⟨.hbm, 179, rfl⟩
abbrev main_v120 : Ref sig .tc := ⟨.hbm, 180, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x8 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8192x384 : Shape := ⟨2, ![8192, 384]⟩
abbrev S384 : Shape := ⟨1, ![384]⟩
abbrev S128x768 : Shape := ⟨2, ![128, 768]⟩
abbrev S128 : Shape := ⟨1, ![128]⟩
abbrev S5x128 : Shape := ⟨2, ![5, 128]⟩
abbrev S5 : Shape := ⟨1, ![5]⟩
abbrev S_ : Shape := ⟨0, ![]⟩
abbrev S8192 : Shape := ⟨1, ![8192]⟩
abbrev S8192x1 : Shape := ⟨2, ![8192, 1]⟩
abbrev S384x8192 : Shape := ⟨2, ![384, 8192]⟩
abbrev S8192x8192 : Shape := ⟨2, ![8192, 8192]⟩
abbrev S8192x6 : Shape := ⟨2, ![8192, 6]⟩
abbrev S8192x5 : Shape := ⟨2, ![8192, 5]⟩
abbrev S1x384 : Shape := ⟨2, ![1, 384]⟩
abbrev S8192x768 : Shape := ⟨2, ![8192, 768]⟩
abbrev S768x128 : Shape := ⟨2, ![768, 128]⟩
abbrev S8192x128 : Shape := ⟨2, ![8192, 128]⟩
abbrev S1x128 : Shape := ⟨2, ![1, 128]⟩
abbrev S128x5 : Shape := ⟨2, ![128, 5]⟩
abbrev S1x5 : Shape := ⟨2, ![1, 5]⟩
abbrev S8192x5x1 : Shape := ⟨3, ![8192, 5, 1]⟩
abbrev S8192x1x5 : Shape := ⟨3, ![8192, 1, 5]⟩
abbrev S8192x5x5 : Shape := ⟨3, ![8192, 5, 5]⟩
abbrev S8192x1x1 : Shape := ⟨3, ![8192, 1, 1]⟩
abbrev S8192x5x2 : Shape := ⟨3, ![8192, 5, 2]⟩

abbrev nBuf : Space → Nat
  | .hbm => 174
  | .vmem => 0
  | .smem => 0
  | _ => 0

abbrev hbmTy0_0 (i : Nat) : BufTy := match i % 128 with
  | 0 => ⟨S8192x384, .f32⟩
  | 1 => ⟨S384, .f32⟩
  | 2 => ⟨S128x768, .f32⟩
  | 3 => ⟨S128, .f32⟩
  | 4 => ⟨S5x128, .f32⟩
  | 5 => ⟨S5, .f32⟩
  | 6 => ⟨S8192x384, .f32⟩
  | 7 => ⟨S_, .f32⟩
  | 8 => ⟨S8192, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x384, .f32⟩
  | 15 => ⟨S8192x384, .f32⟩
  | 16 => ⟨S384x8192, .f32⟩
  | 17 => ⟨S8192x8192, .f32⟩
  | 18 => ⟨S8192x6, .f32⟩
  | 19 => ⟨S8192x6, .i32⟩
  | 20 => ⟨S8192x5, .i32⟩
  | 21 => ⟨S1x384, .f32⟩
  | 22 => ⟨S8192x384, .f32⟩
  | 23 => ⟨S8192x768, .f32⟩
  | 24 => ⟨S768x128, .f32⟩
  | 25 => ⟨S8192x128, .f32⟩
  | 26 => ⟨S1x128, .f32⟩
  | 27 => ⟨S8192x128, .f32⟩
  | 28 => ⟨S8192x128, .f32⟩
  | 29 => ⟨S_, .f32⟩
  | 30 => ⟨S8192x128, .f32⟩
  | 31 => ⟨S8192x128, .f32⟩
  | 32 => ⟨S128x5, .f32⟩
  | 33 => ⟨S8192x5, .f32⟩
  | 34 => ⟨S1x5, .f32⟩
  | 35 => ⟨S8192x5, .f32⟩
  | 36 => ⟨S8192x5, .f32⟩
  | 37 => ⟨S8192x5, .f32⟩
  | 38 => ⟨S_, .f32⟩
  | 39 => ⟨S8192, .f32⟩
  | 40 => ⟨S8192, .f32⟩
  | 41 => ⟨S_, .f32⟩
  | 42 => ⟨S8192, .f32⟩
  | 43 => ⟨S8192, .i1⟩
  | 44 => ⟨S8192, .i1⟩
  | 45 => ⟨S8192, .i1⟩
  | 46 => ⟨S8192x1, .i1⟩
  | 47 => ⟨S_, .f32⟩
  | 48 => ⟨S8192x5, .f32⟩
  | 49 => ⟨S8192x5, .i1⟩
  | 50 => ⟨S8192x5, .f32⟩
  | 51 => ⟨S8192x5x1, .f32⟩
  | 52 => ⟨S8192x1x5, .f32⟩
  | 53 => ⟨S8192x5x5, .f32⟩
  | 54 => ⟨S8192x5x5, .f32⟩
  | 55 => ⟨S8192x5x5, .f32⟩
  | 56 => ⟨S8192x5x5, .f32⟩
  | 57 => ⟨S_, .f32⟩
  | 58 => ⟨S8192, .f32⟩
  | 59 => ⟨S8192, .f32⟩
  | 60 => ⟨S8192x1x1, .f32⟩
  | 61 => ⟨S8192x5x5, .f32⟩
  | 62 => ⟨S8192x5x5, .f32⟩
  | 63 => ⟨S_, .f32⟩
  | 64 => ⟨S8192x5, .f32⟩
  | 65 => ⟨S_, .f32⟩
  | 66 => ⟨S8192x5, .f32⟩
  | 67 => ⟨S8192x5, .f32⟩
  | 68 => ⟨S5, .i32⟩
  | 69 => ⟨S1x5, .i32⟩
  | 70 => ⟨S8192x5, .i32⟩
  | 71 => ⟨S8192x5, .f32⟩
  | 72 => ⟨S_, .f32⟩
  | 73 => ⟨S8192x5, .f32⟩
  | 74 => ⟨S_, .i32⟩
  | 75 => ⟨S8192x5, .i32⟩
  | 76 => ⟨S8192x5, .i1⟩
  | 77 => ⟨S_, .i32⟩
  | 78 => ⟨S8192x5, .i32⟩
  | 79 => ⟨S8192x5, .i32⟩
  | 80 => ⟨S8192x5, .i32⟩
  | 81 => ⟨S_, .i32⟩
  | 82 => ⟨S8192x5, .i32⟩
  | 83 => ⟨S8192x5, .i1⟩
  | 84 => ⟨S_, .i32⟩
  | 85 => ⟨S8192x5, .i32⟩
  | 86 => ⟨S8192x5, .i32⟩
  | 87 => ⟨S8192x5, .i32⟩
  | 88 => ⟨S8192x5x1, .i32⟩
  | 89 => ⟨S8192x5x1, .i32⟩
  | 90 => ⟨S8192x5x2, .i32⟩
  | 91 => ⟨S8192x5, .f32⟩
  | 92 => ⟨S8192x5, .f32⟩
  | 93 => ⟨S_, .f32⟩
  | 94 => ⟨S_, .f32⟩
  | 95 => ⟨S_, .f32⟩
  | 96 => ⟨S_, .f32⟩
  | 97 => ⟨S_, .i1⟩
  | 98 => ⟨S_, .f32⟩
  | 99 => ⟨S_, .f32⟩
  | 100 => ⟨S8192x5, .f32⟩
  | 101 => ⟨S8192x5, .f32⟩
  | 102 => ⟨S8192x5, .f32⟩
  | 103 => ⟨S8192x5, .f32⟩
  | 104 => ⟨S_, .f32⟩
  | 105 => ⟨S8192x5, .f32⟩
  | 106 => ⟨S_, .i32⟩
  | 107 => ⟨S8192x5, .i32⟩
  | 108 => ⟨S8192x5, .i1⟩
  | 109 => ⟨S_, .i32⟩
  | 110 => ⟨S8192x5, .i32⟩
  | 111 => ⟨S8192x5, .i32⟩
  | 112 => ⟨S8192x5, .i32⟩
  | 113 => ⟨S_, .i32⟩
  | 114 => ⟨S8192x5, .i32⟩
  | 115 => ⟨S8192x5, .i1⟩
  | 116 => ⟨S_, .i32⟩
  | 117 => ⟨S8192x5, .i32⟩
  | 118 => ⟨S8192x5, .i32⟩
  | 119 => ⟨S8192x5, .i32⟩
  | 120 => ⟨S8192x5x1, .i32⟩
  | 121 => ⟨S8192x5x1, .i32⟩
  | 122 => ⟨S8192x5x2, .i32⟩
  | 123 => ⟨S8192x5, .f32⟩
  | 124 => ⟨S8192x5, .f32⟩
  | 125 => ⟨S_, .f32⟩
  | 126 => ⟨S_, .f32⟩
  | 127 => ⟨S_, .f32⟩
  | _ => ⟨S8192x384, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S8192x5, .f32⟩
  | 5 => ⟨S8192x5, .f32⟩
  | 6 => ⟨S8192x5, .f32⟩
  | 7 => ⟨S8192x5, .f32⟩
  | 8 => ⟨S_, .f32⟩
  | 9 => ⟨S8192x5, .f32⟩
  | 10 => ⟨S_, .i32⟩
  | 11 => ⟨S8192x5, .i32⟩
  | 12 => ⟨S8192x5, .i1⟩
  | 13 => ⟨S_, .i32⟩
  | 14 => ⟨S8192x5, .i32⟩
  | 15 => ⟨S8192x5, .i32⟩
  | 16 => ⟨S8192x5, .i32⟩
  | 17 => ⟨S_, .i32⟩
  | 18 => ⟨S8192x5, .i32⟩
  | 19 => ⟨S8192x5, .i1⟩
  | 20 => ⟨S_, .i32⟩
  | 21 => ⟨S8192x5, .i32⟩
  | 22 => ⟨S8192x5, .i32⟩
  | 23 => ⟨S8192x5, .i32⟩
  | 24 => ⟨S8192x5x1, .i32⟩
  | 25 => ⟨S8192x5x1, .i32⟩
  | 26 => ⟨S8192x5x2, .i32⟩
  | 27 => ⟨S8192x5, .f32⟩
  | 28 => ⟨S8192x5, .f32⟩
  | 29 => ⟨S_, .f32⟩
  | 30 => ⟨S_, .f32⟩
  | 31 => ⟨S_, .f32⟩
  | 32 => ⟨S_, .f32⟩
  | 33 => ⟨S_, .i1⟩
  | 34 => ⟨S_, .f32⟩
  | 35 => ⟨S_, .f32⟩
  | 36 => ⟨S8192x5, .f32⟩
  | 37 => ⟨S8192x5, .f32⟩
  | 38 => ⟨S8192x5, .f32⟩
  | 39 => ⟨S8192x5, .f32⟩
  | 40 => ⟨S_, .f32⟩
  | 41 => ⟨S8192, .f32⟩
  | 42 => ⟨S8192, .f32⟩
  | 43 => ⟨S8192, .i32⟩
  | 44 => ⟨S8192, .f32⟩
  | 45 => ⟨S8192, .i32⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_values : Ref sig .tc := ⟨.hbm, 18, rfl⟩
abbrev main_indices : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_cst : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call2_v0 : Ref sig .tc := ⟨.hbm, 37, rfl⟩
abbrev main_call2_cst : Ref sig .tc := ⟨.hbm, 38, rfl⟩
abbrev main_call2_v1 : Ref sig .tc := ⟨.hbm, 39, rfl⟩
abbrev main_v22 : Ref sig .tc := ⟨.hbm, 40, rfl⟩
abbrev main_cst_0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_call3_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_c : Ref sig .tc := ⟨.hbm, 74, rfl⟩
abbrev main_v49 : Ref sig .tc := ⟨.hbm, 75, rfl⟩
abbrev main_v50 : Ref sig .tc := ⟨.hbm, 76, rfl⟩
abbrev main_c_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_7 : Ref sig .tc := ⟨.hbm, 81, rfl⟩
abbrev main_v54 : Ref sig .tc := ⟨.hbm, 82, rfl⟩
abbrev main_v55 : Ref sig .tc := ⟨.hbm, 83, rfl⟩
abbrev main_c_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call4_v0 : Ref sig .tc := ⟨.hbm, 92, rfl⟩
abbrev main_call4_cst : Ref sig .tc := ⟨.hbm, 93, rfl⟩
abbrev main_call4_v1 : Ref sig .tc := ⟨.hbm, 94, rfl⟩
abbrev main_v63 : Ref sig .tc := ⟨.hbm, 95, rfl⟩
abbrev main_cst_9 : Ref sig .tc := ⟨.hbm, 96, rfl⟩
abbrev main_v64 : Ref sig .tc := ⟨.hbm, 97, rfl⟩
abbrev main_cst_10 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_11 : Ref sig .tc := ⟨.hbm, 104, rfl⟩
abbrev main_v70 : Ref sig .tc := ⟨.hbm, 105, rfl⟩
abbrev main_c_12 : Ref sig .tc := ⟨.hbm, 106, rfl⟩
abbrev main_v71 : Ref sig .tc := ⟨.hbm, 107, rfl⟩
abbrev main_v72 : Ref sig .tc := ⟨.hbm, 108, rfl⟩
abbrev main_c_13 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_14 : Ref sig .tc := ⟨.hbm, 113, rfl⟩
abbrev main_v76 : Ref sig .tc := ⟨.hbm, 114, rfl⟩
abbrev main_v77 : Ref sig .tc := ⟨.hbm, 115, rfl⟩
abbrev main_c_15 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call6_v0 : Ref sig .tc := ⟨.hbm, 124, rfl⟩
abbrev main_call6_cst : Ref sig .tc := ⟨.hbm, 125, rfl⟩
abbrev main_call6_v1 : Ref sig .tc := ⟨.hbm, 126, rfl⟩
abbrev main_v85 : Ref sig .tc := ⟨.hbm, 127, rfl⟩
abbrev main_cst_16 : Ref sig .tc := ⟨.hbm, 128, rfl⟩
abbrev main_v86 : Ref sig .tc := ⟨.hbm, 129, rfl⟩
abbrev main_cst_17 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_18 : Ref sig .tc := ⟨.hbm, 136, rfl⟩
abbrev main_v92 : Ref sig .tc := ⟨.hbm, 137, rfl⟩
abbrev main_c_19 : Ref sig .tc := ⟨.hbm, 138, rfl⟩
abbrev main_v93 : Ref sig .tc := ⟨.hbm, 139, rfl⟩
abbrev main_v94 : Ref sig .tc := ⟨.hbm, 140, rfl⟩
abbrev main_c_20 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_21 : Ref sig .tc := ⟨.hbm, 145, rfl⟩
abbrev main_v98 : Ref sig .tc := ⟨.hbm, 146, rfl⟩
abbrev main_v99 : Ref sig .tc := ⟨.hbm, 147, rfl⟩
abbrev main_c_22 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_call8_v0 : Ref sig .tc := ⟨.hbm, 156, rfl⟩
abbrev main_call8_cst : Ref sig .tc := ⟨.hbm, 157, rfl⟩
abbrev main_call8_v1 : Ref sig .tc := ⟨.hbm, 158, rfl⟩
abbrev main_v107 : Ref sig .tc := ⟨.hbm, 159, rfl⟩
abbrev main_cst_23 : Ref sig .tc := ⟨.hbm, 160, rfl⟩
abbrev main_v108 : Ref sig .tc := ⟨.hbm, 161, rfl⟩
abbrev main_cst_24 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_cst_25 : Ref sig .tc := ⟨.hbm, 168, rfl⟩
abbrev main_v114 : Ref sig .tc := ⟨.hbm, 169, rfl⟩
abbrev main_v115 : Ref sig .tc := ⟨.hbm, 170, rfl⟩
abbrev main_call10_v0 : Ref sig .tc := ⟨.hbm, 171, rfl⟩
abbrev main_call10_v1_0 : Ref sig .tc := ⟨.hbm, 172, rfl⟩
abbrev main_v116 : Ref sig .tc := ⟨.hbm, 173, rfl⟩

abbrev nD : Nat := 1
abbrev τ : Topo := Topo.v7x

variable {F : FTy → Type} [FloatOps F]
-- ==== Proof.Picks.lean ====
module

public import Idealize.ShloMosaic.Lib.SortPrefix
public import Mathlib.Data.EReal.Basic

/-!
# Repeated maximum against a stable sort

A row of extended reals, none of them the bottom, is picked from again and again: each pick is the first position of the
greatest entry, which is then overwritten with the bottom. The picks are, in order, the positions that the stable sort of
the row by "greater first" begins with.
-/

@[expose] public section

noncomputable section

namespace Cert.Picks

open Idealize.ShloMosaic

variable {n : ℕ}

/-- Position `p` holds the greatest entry of `w`, and no earlier position holds one as great. -/
def IsBest (w : Fin n → EReal) (p : Fin n) : Prop := (∀ c, w c ≤ w p) ∧ ∀ c, c < p → w c < w p

/-- There is at most one such position. -/
theorem IsBest.unique {w : Fin n → EReal} {p q : Fin n} (hp : IsBest w p) (hq : IsBest w q) : p = q := by
  rcases lt_trichotomy p q with h | h | h
  · exact absurd (hq.2 p h) (not_lt.mpr (hp.1 q))
  · exact h
  · exact absurd (hp.2 q h) (not_lt.mpr (hq.1 p))

/-- In a row that is not empty there is one. -/
theorem exists_isBest [NeZero n] (w : Fin n → EReal) : ∃ p, IsBest w p := by
  obtain ⟨m, -, hm⟩ := Finset.exists_max_image Finset.univ w ⟨0, Finset.mem_univ _⟩
  have hne : (Finset.univ.filter fun p => w p = w m).Nonempty := ⟨m, by simp⟩
  obtain ⟨p, hp, hmin⟩ := Finset.exists_min_image _ (fun p : Fin n => p) hne
  have hpm : w p = w m := (Finset.mem_filter.mp hp).2
  refine ⟨p, fun c => hpm ▸ hm c (Finset.mem_univ c), fun c hc => lt_of_le_of_ne (hpm ▸ hm c (Finset.mem_univ c)) fun e => ?_⟩
  exact absurd (hmin c (Finset.mem_filter.mpr ⟨Finset.mem_univ c, e.trans hpm⟩)) (not_le.mpr hc)

/-- The first position of the greatest entry. -/
def best [NeZero n] (w : Fin n → EReal) : Fin n := (exists_isBest w).choose

/-- `best` is such a position. -/
theorem best_isBest [NeZero n] (w : Fin n → EReal) : IsBest w (best w) := (exists_isBest w).choose_spec

/-- The row with position `p` overwritten by the bottom. -/
def cut (w : Fin n → EReal) (p : Fin n) : Fin n → EReal := fun c => if c = p then ⊥ else w c

/-- The row as `t` picks leave it. -/
def left [NeZero n] (v : Fin n → EReal) : ℕ → Fin n → EReal
  | 0 => v
  | t + 1 => cut (left v t) (best (left v t))

/-- The position of pick `t`. -/
def pick [NeZero n] (v : Fin n → EReal) (t : ℕ) : Fin n := best (left v t)

section rounds
variable [NeZero n] (v : Fin n → EReal)

/-- After `t` picks the picked positions hold the bottom and the others what they held. -/
theorem left_apply (t : ℕ) (c : Fin n) : left v t c = if ∃ s < t, pick v s = c then ⊥ else v c := by
  induction t with
  | zero => simp [left]
  | succ t ih =>
    show (if c = pick v t then ⊥ else left v t c) = _
    by_cases h : c = pick v t
    · rw [if_pos h, if_pos ⟨t, Nat.lt_succ_self t, h.symm⟩]
    · rw [if_neg h, ih]
      refine if_congr ⟨fun ⟨s, hs, e⟩ => ⟨s, hs.trans (Nat.lt_succ_self t), e⟩, fun ⟨s, hs, e⟩ => ⟨s, ?_, e⟩⟩ rfl rfl
      rcases Nat.lt_succ_iff_lt_or_eq.mp hs with hs | rfl
      · exact hs
      · exact absurd e.symm h

variable (hv : ∀ c, v c ≠ ⊥)
include hv

/-- While positions are left, a pick is not a position picked before. -/
theorem pick_ne {t : ℕ} (ht : t < n) {s : ℕ} (hs : s < t) : pick v s ≠ pick v t := by
  intro e
  have hcard : ((Finset.range t).image (pick v)).card < (Finset.univ : Finset (Fin n)).card :=
    Finset.card_image_le.trans_lt (by simpa using ht)
  obtain ⟨c, -, hc⟩ := Finset.exists_mem_notMem_of_card_lt_card hcard
  have hc' : left v t c = v c := by
    rw [left_apply, if_neg fun ⟨r, hr, e⟩ => hc (Finset.mem_image.mpr ⟨r, Finset.mem_range.mpr hr, e⟩)]
  have hp : left v t (pick v t) = ⊥ := by rw [left_apply, if_pos ⟨s, hs, e⟩]
  exact hv c (le_bot_iff.mp (hc' ▸ hp ▸ (best_isBest (left v t)).1 c))

/-- A position not picked before round `t` does not come before pick `t`: it is not greater, and if equal not earlier. -/
theorem pick_first {t : ℕ} (ht : t < n) {c : Fin n} (hc : ∀ s < t, pick v s ≠ c) :
    v c ≤ v (pick v t) ∧ (v c = v (pick v t) → pick v t ≤ c) := by
  have h1 : left v t c = v c := by rw [left_apply, if_neg fun ⟨s, hs, e⟩ => hc s hs e]
  have h2 : left v t (pick v t) = v (pick v t) := by
    rw [left_apply, if_neg fun ⟨s, hs, e⟩ => pick_ne v hv ht hs e]
  have hb := best_isBest (left v t)
  refine ⟨h1 ▸ h2 ▸ hb.1 c, fun e => not_lt.mp fun hlt => ?_⟩
  exact absurd (h1.trans (e.trans h2.symm)) (hb.2 c hlt).ne

end rounds

/-- Greater first, and of equal entries the earlier position first. -/
abbrev ahead (v : Fin n → EReal) (a b : Fin n) : Bool :=
  decide (v b < v a) || (decide (v a = v b) && decide (a < b))

/-- `ahead` is a strict total order. -/
theorem ahead_strict (v : Fin n → EReal) : StrictTotalBefore (ahead v) :=
  StrictTotalBefore.of_key_then_position (fun a b : EReal => decide (b < a)) v (fun a => by simp)
    (fun a b c hab hbc => by simp only [decide_eq_true_eq] at *; exact hbc.trans hab)
    (fun a b => by simp only [decide_eq_true_eq]; rcases lt_trichotomy a b with h | h | h <;> simp [h])

/-- Two relations that agree on every entry of a list against `a` insert `a` in the same place. -/
theorem insertBefore_congr {ι : Type} {B R : ι → ι → Bool} (a : ι) (l : List ι) (h : ∀ x ∈ l, B x a = R x a) :
    insertBefore B a l = insertBefore R a l := by
  induction l with
  | nil => rfl
  | cons b l ih =>
    unfold insertBefore
    rw [h b List.mem_cons_self, ih fun x hx => h x (List.mem_cons_of_mem b hx)]

/-- On a list of ascending positions the stable sort by "greater first" is the sort by `ahead`. -/
theorem stableSort_eq_ahead (v : Fin n → EReal) (l : List (Fin n)) (hl : l.Pairwise (· < ·)) :
    stableSort (fun a b => decide (v b < v a)) l = stableSort (ahead v) l := by
  induction l with
  | nil => rfl
  | cons a l ih =>
    obtain ⟨ha, hl'⟩ := List.pairwise_cons.mp hl
    unfold stableSort
    rw [ih hl']
    refine insertBefore_congr a _ fun x hx => ?_
    have hax := ha x ((perm_stableSort _ l).mem_iff.mp hx)
    simp [ahead, not_lt.mpr hax.le]

/-- The stable sort of a row without the bottom by "greater first" begins with the picks. -/
theorem sortedFrom_eq_pick [NeZero n] (v : Fin n → EReal) (hv : ∀ c, v c ≠ ⊥) (t : Fin n) :
    sortedFrom (fun a b => decide (v b < v a)) t = pick v t.val := by
  have e : sortedFrom (fun a b => decide (v b < v a)) t = sortedFrom (ahead v) t := by
    unfold sortedFrom sortPositions
    simp only [List.get_eq_getElem, Fin.val_cast]
    congr 1
    exact stableSort_eq_ahead v _ (List.pairwise_lt_finRange n)
  rw [e]
  have hinj : ∀ i j : Fin n, i < j → pick v i.val ≠ pick v j.val := fun i j hij => pick_ne v hv j.isLt hij
  have hlate : ∀ (i : Fin n) (p : Fin n), (∀ s < i.val, pick v s ≠ p) → ahead v p (pick v i.val) = false := fun i p hp => by
    obtain ⟨h1, h2⟩ := pick_first v hv i.isLt hp
    simp only [ahead, Bool.or_eq_false_iff, Bool.and_eq_false_iff, decide_eq_false_iff_not, not_lt]
    exact ⟨h1, (em (v p = v (pick v i.val))).symm.imp_right h2⟩
  exact (ahead_strict v).sortedFrom_eq_of_prefix le_rfl (fun i : Fin n => pick v i.val)
    (fun i j h => by
      rcases lt_trichotomy i j with hij | hij | hij
      · exact absurd h (hinj i j hij)
      · exact hij
      · exact absurd h.symm (hinj j i hij))
    (fun i j hij => hlate i _ fun s hs => pick_ne v hv j.isLt (hs.trans hij))
    (fun i p hp => hlate i p fun s hs => hp ⟨s, hs.trans i.isLt⟩) t

end Cert.Picks

end
-- ==== Proof.Rounds.lean ====
module

public import proofs.«01_k».proof.Proof.Picks
public import proofs.«01_k».proof.Proof.Gen.KernelIdeal.Skeleton
public import Idealize.ShloMosaic.Lib.Pointwise
public import Idealize.ShloMosaic.Lib.SortNet.Extract

/-!
# The kernel's rounds

One round of the kernel on a block of 256 rows of similarities: the row's maximum, the first column that holds it (the
least column number among those that compare equal), and the block with that column overwritten by minus infinity. Read
row by row at the extended reals, a round is `Picks.best` and `Picks.cut`; the stored columns are picks 1 to 5.
-/

@[expose] public section

set_option maxRecDepth 16384

noncomputable section

namespace Cert.Rounds

open Idealize.ShloMosaic Idealize.ShloMosaic.SortNet
open Cert.KernelIdeal Cert.KernelIdeal.Gen Cert.Picks

/-! ## The fold of the signed minimum -/

/-- A fold of the signed minimum that reaches a value below the initial value and all others ends at it. -/
theorem fold_minsi_eq {ι : Type} [DecidableEq ι] (g : ι → BitVec 32) (init : BitVec 32) (s : Finset ι) (p : ι) (hp : p ∈ s)
    (hi : (g p).toInt ≤ init.toInt) (h : ∀ c ∈ s, (g p).toInt ≤ (g c).toInt) : s.fold IntOp.minsi init g = g p := by
  have low : ∀ u : Finset ι, (∀ c ∈ u, (g p).toInt ≤ (g c).toInt) → (g p).toInt ≤ (u.fold IntOp.minsi init g).toInt := by
    intro u
    refine Finset.induction_on u (fun _ => by rw [Finset.fold_empty]; exact hi) fun a u ha ih hu => ?_
    rw [Finset.fold_insert ha, toInt_minsi]
    exact le_min (hu a (Finset.mem_insert_self a u)) (ih fun c hc => hu c (Finset.mem_insert_of_mem hc))
  rw [← Finset.insert_erase hp, Finset.fold_insert (Finset.notMem_erase p s)]
  refine BitVec.eq_of_toInt_eq ?_
  rw [toInt_minsi]
  exact min_eq_left (low _ fun c hc => h c (Finset.mem_of_mem_erase hc))

/-- A column number below 8192, as a word, has that integer. -/
theorem toInt_col (c : ℕ) (hc : c < 8192) : (BitVec.ofNat 32 c).toInt = c := by
  rw [BitVec.toInt_eq_toNat_of_lt (by simp only [BitVec.toNat_ofNat]; omega), BitVec.toNat_ofNat]
  omega

/-- A fold of the maximum from the bottom over a row is the row's greatest entry. -/
theorem fold_max_eq {n : ℕ} (w : Fin n → EReal) (p : Fin n) (hp : ∀ c, w c ≤ w p) :
    (Finset.univ : Finset (Fin n)).fold max ⊥ w = w p := by
  refine le_antisymm (Finset.fold_max_le _ |>.mpr ⟨bot_le, fun c _ => hp c⟩) ?_
  exact Finset.le_fold_max _ |>.mpr (Or.inr ⟨p, Finset.mem_univ p, le_rfl⟩)

/-! ## One round -/

/-- Row `r` of a block. -/
abbrev row (x : FVec Ideal S256x8192 .f32) (r : Fin 256) : Fin 8192 → EReal := fun c => x (ix2 r c)

/-- The column numbers. -/
abbrev cols : IVec S256x8192 32 := iota .tc S256x8192 32 [1] iota_S256x8192_d1_w32

/-- The first column holding the row's maximum, per row. -/
def firstMax (x : FVec Ideal S256x8192 .f32) : IVec S256x1 32 :=
  shapeCast S256x1 (multiReductionI .minsi [1] S256
    (select (cmpf .oeq x (broadcastTo S256x8192 (shapeCast S256x1
        (multiReduction .maximumf [1] S256 x 0xFF800000#32 reduces_S256x8192_S256 (.inl rfl) rfl) shapeCasts_S256_S256x1)
        broadcasts_S256x1_S256x8192)) cols (broadcast S256x8192 8192#32))
    2147483647#32 reduces_S256x8192_S256 rfl) shapeCasts_S256_S256x1

/-- The block with, per row, that column at minus infinity. -/
def masked (x : FVec Ideal S256x8192 .f32) : FVec Ideal S256x8192 .f32 :=
  select (cmpi .eq cols (broadcastTo S256x8192 (firstMax x) broadcasts_S256x1_S256x8192))
    (broadcast S256x8192 (Scalar.ofBits .f32 0xFF800000#32)) x

/-- The block's similarities: row block times all rows. -/
def sims (v2 : Vec Ideal S256x384 .bf16) (v4 : Vec Ideal S8192x384 .bf16) : FVec Ideal S256x8192 .f32 :=
  matmul dot_S256x384_S8192x384_S256x8192_1_1_0_0_n_n none (shapeCast S256x384 v2 shapeCasts_S256x384_S256x384 : FVec Ideal S256x384 .bf16)
    (shapeCast S8192x384 v4 shapeCasts_S8192x384_S8192x384 : FVec Ideal S8192x384 .bf16) (constant S256x8192 .f32 0x00000000#32)

/-- Minus infinity's word is the bottom. -/
theorem ofBits_neg_inf : (FloatOps.ofBits .f32 0xFF800000#32 : Ideal .f32) = (⊥ : EReal) := by
  show Ideal.ofBits .f32 0xFF800000#32 = ⊥
  simp [Ideal.ofBits, Ideal.ieee]

/-- Row by row `firstMax` is the word of `best`. -/
theorem firstMax_apply (x : FVec Ideal S256x8192 .f32) (r : Fin 256) (z : Fin 1) :
    firstMax x (ix2 r z) = BitVec.ofNat 32 (best (row x r)).val := by
  unfold firstMax
  pointwise
  have hb := best_isBest (row x r)
  rw [show (Ideal.ofBits FTy.f32 4286578688#32) = (⊥ : EReal) from ofBits_neg_inf, fold_max_eq (row x r) _ hb.1]
  refine (fold_minsi_eq _ _ Finset.univ (best (row x r)) (Finset.mem_univ _) ?_ fun c _ => ?_).trans (if_pos rfl)
  · rw [if_pos rfl, toInt_col _ (best (row x r)).isLt]
    have h := (best (row x r)).isLt
    have h2 : (2147483647#32).toInt = 2147483647 := by decide
    omega
  · rw [if_pos rfl, toInt_col _ (best (row x r)).isLt]
    have h := (best (row x r)).isLt
    by_cases hc : x (ix2 r c) = row x r (best (row x r))
    · rw [if_pos hc, toInt_col _ c.isLt]
      have : ¬ c < best (row x r) := fun hlt => absurd hc (hb.2 c hlt).ne
      have : (best (row x r)).val ≤ c.val := not_lt.mp this
      omega
    · rw [if_neg hc]
      have h2 : (8192#32).toInt = 8192 := by decide
      omega

/-- Row by row `masked` is `cut` at `best`. -/
theorem row_masked (x : FVec Ideal S256x8192 .f32) (r : Fin 256) :
    row (masked x) r = cut (row x r) (best (row x r)) := by
  funext c
  show masked x (ix2 r c) = _
  unfold masked
  pointwise
  rw [firstMax_apply, show (Ideal.ofBits FTy.f32 4286578688#32) = (⊥ : EReal) from ofBits_neg_inf]
  have hbl := (best (row x r)).isLt
  have hcl := c.isLt
  have key : (BitVec.ofNat 32 c.val = BitVec.ofNat 32 (best (row x r)).val) ↔ c = best (row x r) := by
    rw [Fin.ext_iff, ← BitVec.toNat_inj, BitVec.toNat_ofNat, BitVec.toNat_ofNat]
    omega
  unfold cut
  by_cases h : c = best (row x r)
  · rw [if_pos h]; simp [Scalar.select, IntOp.cmpi, key.mpr h]
  · rw [if_neg h]
    show (if BitVec.ofBool (_ == _) = 1#1 then _ else _) = _
    rw [beq_eq_false_iff_ne.mpr (mt key.mp h)]
    rfl

/-- After `t` rounds. -/
def rounds (x : FVec Ideal S256x8192 .f32) : ℕ → FVec Ideal S256x8192 .f32
  | 0 => x
  | t + 1 => masked (rounds x t)

/-- Row by row, `t` rounds leave what `t` picks leave. -/
theorem row_rounds (x : FVec Ideal S256x8192 .f32) (r : Fin 256) (t : ℕ) : row (rounds x t) r = Picks.left (row x r) t := by
  induction t with
  | zero => rfl
  | succ t ih => exact (row_masked (rounds x t) r).trans (by rw [ih]; rfl)

/-- The word found in round `t`, row by row, is pick `t`. -/
theorem firstMax_rounds (x : FVec Ideal S256x8192 .f32) (r : Fin 256) (z : Fin 1) (t : ℕ) :
    firstMax (rounds x t) (ix2 r z) = BitVec.ofNat 32 (pick (row x r) t).val := by
  rw [firstMax_apply, row_rounds]; rfl

variable (v2 : Vec Ideal S256x384 .bf16) (v4 : Vec Ideal S8192x384 .bf16)

theorem pay2_eq : k0_pay2 v2 v4 = rounds (sims v2 v4) 1 := rfl
theorem pay3_eq : k0_pay3 v2 v4 = firstMax (rounds (sims v2 v4) 1) := rfl
theorem pay4_eq : k0_pay4 v2 v4 = rounds (sims v2 v4) 2 := rfl
theorem pay5_eq : k0_pay5 v2 v4 = firstMax (rounds (sims v2 v4) 2) := rfl

/-- What the block stores, from the rounds: picks 1 to 5 and three zero columns. -/
theorem pay7_eq : k0_pay7 cols (k0_pay3 v2 v4) (k0_pay4 v2 v4) (k0_pay5 v2 v4) (k0_pay6 v2 v4) (Scalar.ofBits .f32 0xFF800000#32)
    = concatenate S256x8 1 [⟨S256x5, concatenate S256x5 1 [⟨S256x1, firstMax (rounds (sims v2 v4) 1)⟩,
        ⟨S256x1, firstMax (rounds (sims v2 v4) 2)⟩, ⟨S256x1, firstMax (rounds (sims v2 v4) 3)⟩,
        ⟨S256x1, firstMax (rounds (sims v2 v4) 4)⟩, ⟨S256x1, firstMax (rounds (sims v2 v4) 5)⟩]
        concatenates_S256x1_S256x1_S256x1_S256x1_S256x1_S256x5_d1⟩,
        ⟨S256x3, broadcast S256x3 0#32⟩] concatenates_S256x5_S256x3_S256x8_d1 := rfl

/-- The stored word at row `r`: in the first five columns the next pick of the row of similarities, in the others zero. -/
theorem pay7_apply (r : Fin 256) (j : Fin 8) :
    k0_pay7 cols (k0_pay3 v2 v4) (k0_pay4 v2 v4) (k0_pay5 v2 v4) (k0_pay6 v2 v4) (Scalar.ofBits .f32 0xFF800000#32) (ix2 r j)
      = if j.val < 5 then BitVec.ofNat 32 (pick (row (sims v2 v4) r) (j.val + 1)).val else 0#32 := by
  rw [pay7_eq]
  pointwise
  by_cases hj : j.val < 5
  · rw [dif_pos hj, if_pos hj]
    fin_vals j with hk
    all_goals simp only [hk, Nat.reduceSub, Nat.reduceLT, ↓reduceDIte, firstMax_rounds, Nat.reduceAdd]
    all_goals omega
  · rw [dif_neg hj, if_neg hj]

end Cert.Rounds

end
-- ==== Proof.Rows.lean ====
module

public import proofs.«01_k».proof.Proof.Picks
public import Mathlib.Algebra.BigOperators.Fin

/-!
# One node's row

What is computed for one node: its similarities to all nodes, its neighbours (the picks after the first), and its
amplitudes, the two-layer network on the node's embedding followed by the query.
-/

@[expose] public section

noncomputable section

namespace Cert.Rows

/-- The similarities of node `n` to all nodes: inner products of rows of the normalised embedding. -/
def simRow (x : Fin 8192 → Fin 384 → EReal) (n : Fin 8192) : Fin 8192 → EReal := fun k => ∑ d, x n d * x k d

/-- Neighbour `j` of node `n`: pick `j + 1` of its similarities (pick 0 is the one left out), as a word. -/
def neighbour (x : Fin 8192 → Fin 384 → EReal) (n : Fin 8192) (j : ℕ) : BitVec 32 :=
  BitVec.ofNat 32 (Picks.pick (simRow x n) (j + 1)).val

/-- One amplitude: the hidden layer on (embedding row, query), rectified, against one row of the second layer. -/
def amp (e q : Fin 384 → EReal) (w1 : Fin 128 → Fin 768 → EReal) (b1 w2 : Fin 128 → EReal) (b2 : EReal) : EReal :=
  ∑ k, max ((∑ d : Fin 384, e d * w1 k ⟨d.val, by omega⟩) + (∑ d : Fin 384, q d * w1 k ⟨384 + d.val, by omega⟩) + b1 k) 0 * w2 k + b2

end Cert.Rows

end
-- ==== Proof.Blocks.lean ====
module

public import proofs.«01_k».proof.Proof.Rounds
public import proofs.«01_k».proof.Proof.Rows
public import proofs.«01_k».proof.Proof.Gen.KernelIdeal.Frame
public import Idealize.ShloMosaic.Lib.Pipeline.Value

/-!
# What the kernel stores, block by block
-/

@[expose] public section

set_option maxRecDepth 16384

noncomputable section

namespace Cert.Blocks

open Idealize.ShloMosaic Idealize.ShloMosaic.TcCoe Idealize.ShloMosaic.Tactic Idealize.SL.Sem
open Idealize.ShloMosaic.Pipeline (Dat)
open Cert.KernelIdeal Cert.KernelIdeal.Gen Cert.Picks Cert.Rounds

variable (m : (ℓ : Loc nD τ sig) → Buf (Elt Ideal) ℓ) (c : Dev nD)

/-- Offsets zero on both axes. -/
theorem hz : (![0, 0] : Fin 2 → Nat) = fun _ => 0 := funext fun a => by fin_cases a <;> rfl

/-- The 256 rows of the normalised embedding that point `t` compares against all rows. -/
abbrev rowBlock (t : Fin cfg0.N) : Vec Ideal S256x384 .bf16 :=
  View.ld (iblk m c 0 t) (Rect.unit (s := S8192x384) (k0_off1 (grid0.coords t)) S256x384.size (k0_off1_inb (grid0.coords t)))

/-- The neighbour block stored at point `t`. -/
theorem out7_eq (t : Fin cfg0.N) : (outsAt0 m c t).1
    = k0_pay7 cols (k0_pay3 (rowBlock m c t) (iblk m c 0 t)) (k0_pay4 (rowBlock m c t) (iblk m c 0 t))
        (k0_pay5 (rowBlock m c t) (iblk m c 0 t)) (k0_pay6 (rowBlock m c t) (iblk m c 0 t)) (Scalar.ofBits .f32 0xFF800000#32) := by
  unfold outsAt0; dsimp only
  unfold out0_A_7
  rw [View.read_writes_eq_canon _ _ _ (cover0_A_7 c _ _ _ _ _ _ _ _ _ _ _ _ _ _ _ _ _ _ _ _ _ _ _ _ _ _)]
  unfold kernelRun0_A
  dsimp only
  sl_unfold_words
  simp only [View.readAt_eq_ld, (hs0_0 t).read_unread]
  rw [View.canon_unit_zero hz]
  have e := View.ld_unit_zero (S := S8192x384) hz inb_S8192x384_S8192x384_0_0 (iblk m c 0 t)
  exact congrArg (fun X => k0_pay7 cols (k0_pay3 (rowBlock m c t) X) (k0_pay4 (rowBlock m c t) X) (k0_pay5 (rowBlock m c t) X)
    (k0_pay6 (rowBlock m c t) X) (Scalar.ofBits .f32 0xFF800000#32)) e

/-- The amplitude block stored at point `t`. -/
theorem out8_eq (t : Fin cfg0.N) : (outsAt0 m c t).2
    = k0_pay1 (k0_pay8 (iblk m c 2 t)) (iblk m c 1 t) (iblk m c 3 t) (iblk m c 4 t) (iblk m c 5 t) (iblk m c 6 t) := by
  unfold outsAt0; dsimp only
  unfold out0_A_8
  rw [View.read_writes_eq_canon _ _ _ (cover0_A_8 c _ _ _ _ _ _ _ _ _ _ _ _ _ _ _ _ _ _ _ _ _ _ _ _ _ _)]
  unfold kernelRun0_A
  dsimp only
  sl_unfold_words
  simp only [View.readAt_eq_ld, (hs0_1 t).read_unread, (hs0_2 t).read_unread, (hs0_3 t).read_unread, (hs0_4 t).read_unread, (hs0_5 t).read_unread, (hs0_6 t).read_unread]
  rw [View.canon_unit_zero hz]
  rw [View.ld_unit_zero (S := S256x384) hz, View.ld_unit_zero (S := S128x768) hz, View.ld_unit_zero (S := S1x128) hz,
    View.ld_unit_zero (S := S8x128) hz, View.ld_unit_zero (S := S1x8) hz, View.ld_unit_zero (S := S1x384) hz]

/-! ## Where each block lies in its array -/

/-- The block indices at every point: the whole arrays at zero, the row-blocked ones at the point's number. -/
theorem idx_facts : ∀ t : Fin cfg0.N,
    ((win0_0.index t 0 = 0 ∧ win0_0.index t 1 = 0) ∧ (win0_2.index t 0 = 0 ∧ win0_2.index t 1 = 0)
      ∧ (win0_3.index t 0 = 0 ∧ win0_3.index t 1 = 0) ∧ (win0_4.index t 0 = 0 ∧ win0_4.index t 1 = 0)
      ∧ (win0_5.index t 0 = 0 ∧ win0_5.index t 1 = 0) ∧ (win0_6.index t 0 = 0 ∧ win0_6.index t 1 = 0))
    ∧ (win0_1.index t 0 = t.val ∧ win0_1.index t 1 = 0) ∧ (win0_7.index t 0 = t.val ∧ win0_7.index t 1 = 0)
      ∧ (win0_8.index t 0 = t.val ∧ win0_8.index t 1 = 0) ∧ k0_off1 (grid0.coords t) 0 = t.val * 256 ∧ k0_off1 (grid0.coords t) 1 = 0 :=
  (by decide +kernel : ∀ t : Fin grid0.N, _)

/-- Row `r` of the block at point `t`, as a row of the array. -/
def rowAt (t : Fin cfg0.N) (r : Fin 256) : Fin 8192 :=
  ⟨t.val * 256 + r.val, by have h := t.isLt; have h' : cfg0.N = 32 := N_0; have := r.isLt; omega⟩

/-- A window whose block is its whole array at every point reads the array. -/
theorem whole_emb (w : Pipeline.Window sig grid0) (t : Fin grid0.N) (h : ∀ a, w.index t a = 0) (j : (w.xblock (grid0.coords t)).Idx)
    (a : Fin w.shape.rank) : ((w.rect t).emb j a : Nat) = j a := w.rect_emb_val_of_index_zero t a (h a) j

/-- Both components of a rank-two index vector, from the two. -/
theorem both {f : Fin 2 → Nat} (h : f 0 = 0 ∧ f 1 = 0) (a : Fin 2) : f a = 0 := by
  match a with
  | ⟨0, _⟩ => exact h.1
  | ⟨1, _⟩ => exact h.2

theorem blk0 (t : Fin cfg0.N) : iblk m c 0 t = V m c main_v13 := funext fun j =>
  congrArg (V m c main_v13) (funext fun a => Fin.ext (whole_emb win0_0 t (both (idx_facts t).1.1) j a))
theorem blk2 (t : Fin cfg0.N) : iblk m c 2 t = V m c main_v16 := funext fun j =>
  congrArg (V m c main_v16) (funext fun a => Fin.ext (whole_emb win0_2 t (both (idx_facts t).1.2.1) j a))
theorem blk3 (t : Fin cfg0.N) : iblk m c 3 t = V m c main_v17 := funext fun j =>
  congrArg (V m c main_v17) (funext fun a => Fin.ext (whole_emb win0_3 t (both (idx_facts t).1.2.2.1) j a))
theorem blk4 (t : Fin cfg0.N) : iblk m c 4 t = V m c main_v18 := funext fun j =>
  congrArg (V m c main_v18) (funext fun a => Fin.ext (whole_emb win0_4 t (both (idx_facts t).1.2.2.2.1) j a))
theorem blk5 (t : Fin cfg0.N) : iblk m c 5 t = V m c main_v19 := funext fun j =>
  congrArg (V m c main_v19) (funext fun a => Fin.ext (whole_emb win0_5 t (both (idx_facts t).1.2.2.2.2.1) j a))
theorem blk6 (t : Fin cfg0.N) : iblk m c 6 t = V m c main_v12 := funext fun j =>
  congrArg (V m c main_v12) (funext fun a => Fin.ext (whole_emb win0_6 t (both (idx_facts t).1.2.2.2.2.2) j a))

/-- A block of 256 rows reads the array at the block's rows. -/
theorem blk1 (t : Fin cfg0.N) (r : Fin 256) (d : Fin 384) : iblk m c 1 t (ix2 r d) = V m c main_v14 (ix2 (rowAt t r) d) := by
  show V m c main_v14 ((win0_1.rect t).emb (ix2 r d)) = _
  obtain ⟨-, ⟨h0, h1⟩, -⟩ := idx_facts t
  refine congrArg _ (funext fun a => Fin.ext ?_)
  match a with
  | ⟨0, _⟩ => exact (win0_1.rect_emb_val t (ix2 r d) 0).trans (by rw [h0]; rfl)
  | ⟨1, _⟩ => exact (win0_1.rect_emb_val t (ix2 r d) 1).trans (by rw [h1]; exact (Nat.zero_mul _).symm ▸ Nat.zero_add _)

/-- and so does the part of the normalised embedding the point compares. -/
theorem rowBlock_apply (t : Fin cfg0.N) (r : Fin 256) (d : Fin 384) :
    rowBlock m c t (ix2 r d) = V m c main_v13 (ix2 (rowAt t r) d) := by
  rw [← blk0 m c t]
  obtain ⟨-, -, -, -, h0, h1⟩ := idx_facts t
  unfold rowBlock
  pointwise
  refine congrArg (iblk m c 0 t) (congrArg₂ ix2 (Fin.ext ?_) (Fin.ext ?_))
  · show k0_off1 (grid0.coords t) 0 + r.val = t.val * 256 + r.val
    rw [h0]
  · show k0_off1 (grid0.coords t) 1 + d.val = d.val
    rw [h1, Nat.zero_add]

/-! ## The stored blocks at an index -/

/-- A product of the similarities at an index. -/
theorem sims_apply (a : Vec Ideal S256x384 .bf16) (x : Vec Ideal S8192x384 .bf16) (r : Fin 256) (k : Fin 8192) :
    sims a x (ix2 r k) = ∑ d, a (ix2 r d) * x (ix2 k d) := by
  pointwise [sims]

/-- The similarities' row `r` at point `t` is the row of the node it stands for. -/
theorem row_sims (t : Fin cfg0.N) (r : Fin 256) : row (sims (rowBlock m c t) (iblk m c 0 t)) r
    = Rows.simRow (fun n d => V m c main_v13 (ix2 n d)) (rowAt t r) := by
  funext k
  refine (sims_apply _ _ r k).trans (Finset.sum_congr rfl fun d _ => ?_)
  rw [rowBlock_apply, blk0]

/-- The amplitude payload at an index. -/
theorem pay1_apply (e : Vec Ideal S256x384 .bf16) (q : Vec Ideal S1x384 .bf16) (w1 : Vec Ideal S128x768 .bf16)
    (b1 : Vec Ideal S1x128 .f32) (w2 : Vec Ideal S8x128 .bf16) (b2 : Vec Ideal S1x8 .f32) (r : Fin 256) (j : Fin 8) :
    k0_pay1 (k0_pay8 q) e w1 b1 w2 b2 (ix2 r j) = Rows.amp (fun d => e (ix2 r d)) (fun d => q (ix2 0 d)) (fun k d => w1 (ix2 k d))
      (fun k => b1 (ix2 0 k)) (fun k => w2 (ix2 j k)) (b2 (ix2 0 j)) := by
  pointwise [k0_pay1, k0_pay8]
  rfl

/-! ## The two arrays after the run -/

/-- The neighbour array: neighbours in the first five columns, zero in the others. -/
def nbrArr : Vec Ideal S8192x8 .i32 := fun i =>
  if (i 1).val < 5 then Rows.neighbour (fun n d => V m c main_v13 (ix2 n d)) (i 0) (i 1).val else 0#32

/-- The amplitude array, from the arrays the region finds. -/
def ampArr : Vec Ideal S8192x8 .f32 := fun i =>
  Rows.amp (fun d => V m c main_v14 (ix2 (i 0) d)) (fun d => V m c main_v16 (ix2 0 d)) (fun k d => V m c main_v17 (ix2 k d))
    (fun k => V m c main_v18 (ix2 0 k)) (fun k => V m c main_v19 (ix2 (i 1) k)) (V m c main_v12 (ix2 0 (i 1)))

/-- Where an element of an output block lies. -/
theorem emb7 (t : Fin cfg0.N) (r : Fin 256) (j : Fin 8) : (win0_7.rect t).emb (ix2 r j) = ix2 (rowAt t r) j := by
  obtain ⟨-, -, ⟨h0, h1⟩, -⟩ := idx_facts t
  refine funext fun a => Fin.ext ?_
  match a with
  | ⟨0, _⟩ => exact (win0_7.rect_emb_val t (ix2 r j) 0).trans (by rw [h0]; rfl)
  | ⟨1, _⟩ => exact (win0_7.rect_emb_val t (ix2 r j) 1).trans (by rw [h1]; exact (Nat.zero_mul _).symm ▸ Nat.zero_add _)
theorem emb8 (t : Fin cfg0.N) (r : Fin 256) (j : Fin 8) : (win0_8.rect t).emb (ix2 r j) = ix2 (rowAt t r) j := by
  obtain ⟨-, -, -, ⟨h0, h1⟩, -⟩ := idx_facts t
  refine funext fun a => Fin.ext ?_
  match a with
  | ⟨0, _⟩ => exact (win0_8.rect_emb_val t (ix2 r j) 0).trans (by rw [h0]; rfl)
  | ⟨1, _⟩ => exact (win0_8.rect_emb_val t (ix2 r j) 1).trans (by rw [h1]; exact (Nat.zero_mul _).symm ▸ Nat.zero_add _)

/-- Every index of an output array is an element of the block of some point. -/
theorem exists_block (i : S8192x8.Idx) : ∃ (t : Fin cfg0.N) (r : Fin 256) (j : Fin 8), i = ix2 (rowAt t r) j := by
  have h := (i 0).isLt
  have hN : cfg0.N = 32 := N_0
  have h' : (i 0).val < 8192 := h
  refine ⟨⟨(i 0).val / 256, by omega⟩, ⟨(i 0).val % 256, Nat.mod_lt _ (by omega)⟩, i 1, ?_⟩
  refine (eq_ix2 i).trans (congrArg₂ ix2 (Fin.ext ?_) rfl)
  show (i 0).val = (i 0).val / 256 * 256 + (i 0).val % 256
  omega

/-- The neighbour array ends at `nbrArr`. -/
theorem arr7 : (dats m 0 c).arrAt 7 cfg0.N = nbrArr m c := by
  refine (dats m 0 c).arrAt_eq_of_cover 7 (nbrArr m c) (fun t _ => ?_) fun i => ?_
  · show (cfg0.win 7).cut (grid0.coords t) ((dats m 0 c).after 7 t) = _
    rw [after0_7, out7_eq]
    funext y
    obtain ⟨r, j, rfl⟩ : ∃ (r : Fin 256) (j : Fin 8), y = ix2 r j := ⟨y 0, y 1, eq_ix2 y⟩
    show k0_pay7 _ _ _ _ _ _ (ix2 r j) = nbrArr m c ((win0_7.rect t).emb (ix2 r j))
    rw [emb7, pay7_apply, row_sims]
    rfl
  · obtain ⟨t, r, j, e⟩ := exists_block i
    refine ⟨t, flush0_7 t, ?_⟩
    have e' : i = ((cfg0.win 7).blk t).view.emb (ix2 r j) := e.trans (emb7 t r j).symm
    exact e' ▸ ((cfg0.win 7).blk t).view.emb_mem_set (ix2 r j)

/-- The amplitude array ends at `ampArr`. -/
theorem arr8 : (dats m 0 c).arrAt 8 cfg0.N = ampArr m c := by
  refine (dats m 0 c).arrAt_eq_of_cover 8 (ampArr m c) (fun t _ => ?_) fun i => ?_
  · show (cfg0.win 8).cut (grid0.coords t) ((dats m 0 c).after 8 t) = _
    rw [after0_8, out8_eq, blk2, blk3, blk4, blk5, blk6]
    funext y
    obtain ⟨r, j, rfl⟩ : ∃ (r : Fin 256) (j : Fin 8), y = ix2 r j := ⟨y 0, y 1, eq_ix2 y⟩
    refine (pay1_apply _ _ _ _ _ _ r j).trans ?_
    show _ = ampArr m c ((win0_8.rect t).emb (ix2 r j))
    rw [emb8]
    simp only [blk1]
    rfl
  · obtain ⟨t, r, j, e⟩ := exists_block i
    refine ⟨t, flush0_8 t, ?_⟩
    have e' : i = ((cfg0.win 8).blk t).view.emb (ix2 r j) := e.trans (emb8 t r j).symm
    exact e' ▸ ((cfg0.win 8).blk t).view.emb_mem_set (ix2 r j)

end Cert.Blocks

end
-- ==== Proof.RefRows.lean ====
module

public import proofs.«01_k».proof.Proof.Rows
public import proofs.«01_k».proof.Proof.Gen.ReferenceIdeal.Run
public import Idealize.ShloMosaic.Lib.Pointwise

/-!
# The reference's neighbours and amplitudes, node by node
-/

@[expose] public section

set_option maxRecDepth 16384

noncomputable section

namespace Cert.RefRows

open Idealize.ShloMosaic Idealize.ShloMosaic.TcCoe
open Cert.ReferenceIdeal Cert.ReferenceIdeal.Value Cert.Picks

variable (V0 : Valuation τ sig (Elt Ideal))

/-! ## No similarity is the bottom -/

/-- A sum without the bottom among its terms is not the bottom. -/
theorem sum_ne_bot {ι : Type} [DecidableEq ι] (s : Finset ι) (f : ι → EReal) (h : ∀ i ∈ s, f i ≠ ⊥) : ∑ i ∈ s, f i ≠ ⊥ := by
  induction s using Finset.induction_on with
  | empty => simp
  | insert a s ha ih =>
    rw [Finset.sum_insert ha]
    exact fun e => (EReal.add_eq_bot_iff.mp e).elim (h a (Finset.mem_insert_self a s))
      (ih fun i hi => h i (Finset.mem_insert_of_mem hi))

/-- A square is not negative. -/
theorem mul_self_nonneg (a : EReal) : 0 ≤ a * a := by
  rcases le_total 0 a with h | h
  · exact mul_nonneg h h
  · rw [← neg_mul_neg]
    have h' : 0 ≤ -a := by rw [← neg_zero]; exact EReal.neg_le_neg_iff.mpr h
    exact mul_nonneg h' h'

/-- The least length a row is divided by is a positive real. -/
theorem eps_pos : ∃ e : ℝ, 0 < e ∧ Ideal.ofBits FTy.f32 730643660#32 = (e : EReal) := by
  refine ⟨_, ?_, by simp [Ideal.ofBits, Ideal.ieee]; rfl⟩
  positivity

/-- An entry over the greater of its row's length and a positive real is a real number: where the length is infinite the
    quotient is zero, and otherwise every entry of the row is real. -/
theorem normalised_real (x : Fin 384 → EReal) (d : Fin 384) :
    ∃ y : ℝ, Ideal.div (x d) (max (Ideal.sqrt (∑ k, x k * x k)) (Ideal.ofBits FTy.f32 730643660#32)) = (y : EReal) := by
  obtain ⟨e, he, hE⟩ := eps_pos
  rw [hE]
  have hS : 0 ≤ ∑ k, x k * x k := Finset.sum_nonneg fun k _ => mul_self_nonneg (x k)
  by_cases hT : ∑ k, x k * x k = ⊤
  · refine ⟨0, ?_⟩
    rw [hT, Ideal.sqrt_top, max_eq_left le_top]
    simp [Ideal.div]
  · have hle : x d * x d ≤ ∑ k, x k * x k :=
      Finset.single_le_sum (f := fun k => x k * x k) (fun k _ => mul_self_nonneg (x k)) (Finset.mem_univ d)
    have hd : x d * x d ≠ ⊤ := fun h => hT (top_le_iff.mp (h ▸ hle))
    have hx : ∃ r : ℝ, x d = (r : EReal) := by
      generalize x d = a at hd
      induction a using EReal.rec with
      | bot => exact absurd (by simp) hd
      | top => exact absurd (by simp) hd
      | coe r => exact ⟨r, rfl⟩
    obtain ⟨r, hr⟩ := hx
    have hq : ∃ q : ℝ, max (Ideal.sqrt (∑ k, x k * x k)) (e : EReal) = (q : EReal) ∧ 0 < q := by
      generalize (∑ k, x k * x k) = a at hS hT
      induction a using EReal.rec with
      | bot => exact absurd hS (by simp)
      | top => exact absurd rfl hT
      | coe s =>
        have hs : ¬ s < 0 := not_lt.mpr (EReal.coe_nonneg.mp hS)
        refine ⟨max (Real.sqrt s) e, ?_, lt_max_of_lt_right he⟩
        rw [Ideal.sqrt_coe, if_neg hs]
        exact (EReal.coe_strictMono.monotone.map_max).symm
    obtain ⟨q, hq, hq0⟩ := hq
    refine ⟨r * q⁻¹, ?_⟩
    rw [hq, hr]
    unfold Ideal.div
    rw [if_neg (by exact_mod_cast hq0.ne'), EReal.coe_mul, EReal.coe_inv]

variable (V0 : Valuation τ sig (Elt Ideal))

/-- The embedding handed in, as a table of extended reals. -/
abbrev emb (n : Fin 8192) (d : Fin 384) : EReal := V0 (Proc.devRef .tc main_arg0) (ix2 n d)

/-- The normalised embedding, as a table of extended reals. -/
abbrev embn (n : Fin 8192) (d : Fin 384) : EReal := res_main_v4 V0 (ix2 n d)

/-- The normalised embedding at an index. -/
theorem embn_eq (n : Fin 8192) (d : Fin 384) : embn V0 n d
    = Ideal.div (emb V0 n d) (max (Ideal.sqrt (∑ k, emb V0 n k * emb V0 n k)) (Ideal.ofBits FTy.f32 730643660#32)) := by
  unfold embn
  pointwise [res_main_v4]

/-- It is real everywhere, so no similarity is the bottom. -/
theorem simRow_ne_bot (n k : Fin 8192) : Rows.simRow (embn V0) n k ≠ ⊥ := by
  refine sum_ne_bot _ _ fun d _ => ?_
  obtain ⟨y, hy⟩ := normalised_real (emb V0 n) d
  obtain ⟨z, hz⟩ := normalised_real (emb V0 k) d
  have e : embn V0 n d * embn V0 k d = ((y * z : ℝ) : EReal) := by
    rw [embn_eq, embn_eq, hy, hz, EReal.coe_mul]
  exact fun h => EReal.coe_ne_bot _ (e.symm.trans h)

/-- The reference's similarities at an index. -/
theorem v6_apply (n k : Fin 8192) : (res_main_v6 V0 (ix2 n k) : EReal) = Rows.simRow (embn V0) n k := by
  pointwise [res_main_v6]
  rfl

/-! ## Neighbours -/

/-- The positions a top-k of a row reports are those the stable sort of the row by "greater first" begins with. -/
theorem topK_apply (sf : S8192x8192.Slices (fun _ => 0) S8192x6) (x : FVec Ideal S8192x8192 .f32) (n : Fin 8192) (j : Fin 6) (w : Fin 8192 → EReal) (hw : ∀ k, x (ix2 n k) = w k) :
    (Host.topK S8192x6 1 (FloatOps.cmpfTotal .gt) x sf).2 (ix2 n j)
      = BitVec.ofNat 32 (sortedFrom (fun k k' => decide (w k' < w k)) ⟨j.val, by omega⟩).val := by
  unfold Host.topK Host.sort2
  have hj : ∀ (i : S8192x8192.Idx) (k : Fin 8192), i 0 = n → i.along 1 k = ix2 n k := by
    intro i k hi
    rw [← hi]
    funext a
    match a with
    | ⟨0, _⟩ => rfl
    | ⟨1, _⟩ => rfl
  have hr : ∀ i : S8192x8192.Idx, i 0 = n → (fun k k' => FloatOps.cmpfTotal (φ := .f32) .gt (x (i.along 1 k)) (x (i.along 1 k')) == 1#1)
      = fun k k' => decide (w k' < w k) := by
    intro i hi
    funext k k'
    have e : ∀ a b : EReal, (FloatOps.cmpfTotal (F := Ideal) (φ := .f32) .gt a b == 1#1) = decide (b < a) := by
      intro a b
      show (BitVec.ofBool (decide (b < a)) == 1#1) = _
      cases decide (b < a) <;> rfl
    rw [hj i k hi, hj i k' hi]
    refine (e _ _).trans ?_
    exact congrArg₂ (fun a b : EReal => decide (b < a)) (hw k) (hw k')
  have hi : ((extractStridedSlice S8192x6 (fun _ => 0) (fun i : S8192x8192.Idx => i) sf (ix2 n j)) 0 : Fin 8192) = n :=
    Fin.ext (Nat.zero_add _)
  have hi1 : ((extractStridedSlice S8192x6 (fun _ => 0) (fun i : S8192x8192.Idx => i) sf (ix2 n j)) 1 : Fin 8192) = (⟨j.val, by omega⟩ : Fin 8192) :=
    Fin.ext (Nat.zero_add _)
  generalize hd : extractStridedSlice S8192x6 (fun _ => 0) (fun i : S8192x8192.Idx => i) sf (ix2 n j) = i at hi hi1
  have e : sortedFrom (fun k k' => FloatOps.cmpfTotal (φ := .f32) .gt (x (i.along 1 k)) (x (i.along 1 k')) == 1#1) (i 1)
      = sortedFrom (fun k k' => decide (w k' < w k)) (⟨j.val, by omega⟩ : Fin 8192) := by
    rw [hr i hi]
    exact congrArg (sortedFrom _) hi1
  refine Eq.trans ?_ (congrArg (fun t : Fin 8192 => BitVec.ofNat 32 t.val) e)
  subst hd
  dsimp only
  have h1 : 1 < S8192x8192.rank := by decide
  rw [dif_pos h1]
  unfold extractStridedSlice
  dsimp only
  rw [dif_pos h1]
  have hk : ∀ (i : S8192x8192.Idx) (k : Fin 8192), iotaInDim S8192x8192 32 1 (i.along 1 k) = BitVec.ofNat 32 k.val := by
    intro i k
    unfold iotaInDim Shape.Idx.along
    exact congrArg (fun t : Fin 8192 => BitVec.ofNat 32 t.val)
      (Function.update_self (β := fun a => Fin (S8192x8192.size a)) (1 : Fin S8192x8192.rank) k i)
  exact hk _ _

/-- The reference's neighbours. -/
theorem v7_apply (n : Fin 8192) (j : Fin 5) : (res_main_v7 V0 (ix2 n j) : BitVec 32) = Rows.neighbour (embn V0) n j.val := by
  unfold res_main_v7
  pointwise
  refine (topK_apply _ (res_main_v6 V0) n _ _ (v6_apply V0 n)).trans ?_
  rw [sortedFrom_eq_pick _ (simRow_ne_bot V0 n)]
  exact congrArg (fun t => BitVec.ofNat 32 (pick (Rows.simRow (embn V0) n) t).val) (Nat.add_comm 1 j.val)

/-! ## Amplitudes -/

/-- The reference's amplitudes. -/
theorem v21_apply (n : Fin 8192) (j : Fin 5) : (res_main_v21 V0 (ix2 n j) : EReal)
    = Rows.amp (fun d => V0 (Proc.devRef .tc main_arg0) (ix2 n d)) (fun d => V0 (Proc.devRef .tc main_arg1) (ix1 d))
        (fun k d => V0 (Proc.devRef .tc main_arg2) (ix2 k d)) (fun k => V0 (Proc.devRef .tc main_arg3) (ix1 k))
        (fun k => V0 (Proc.devRef .tc main_arg4) (ix2 j k)) (V0 (Proc.devRef .tc main_arg5) (ix1 j)) := by
  pointwise [res_main_v21]
  rfl

end Cert.RefRows

end
-- ==== Proof.KernelHost.lean ====
module

public import proofs.«01_k».proof.Proof.Rows
public import proofs.«01_k».proof.Proof.Gen.KernelIdeal.Frame
public import Idealize.ShloMosaic.Lib.Pointwise
public import Idealize.ShloMosaic.Lib.StableHlo.ReadAt
public import Idealize.ShloMosaic.Lib.Routing.OpsSet

/-!
# What the host hands the kernel, in terms of the arguments
-/

@[expose] public section

set_option maxRecDepth 16384

noncomputable section

namespace Cert.KernelHost

open Idealize.ShloMosaic Idealize.ShloMosaic.TcCoe Idealize.ShloMosaic.Tactic Idealize.SL.Sem Idealize.ShloMosaic.StableHlo
open Cert.KernelIdeal Cert.KernelIdeal.Gen

variable (m : (ℓ : Loc nD τ sig) → Buf (Elt Ideal) ℓ) (c : Dev nD)

/-- The embedding handed in, as a table of extended reals. -/
abbrev emb (n : Fin 8192) (d : Fin 384) : EReal := m (c, Proc.devRef .tc main_arg0) (ix2 n d)

/-- The normalised embedding the kernel ranks by. -/
theorem v13_apply (n : Fin 8192) (d : Fin 384) : (V m c main_v13 (ix2 n d) : EReal)
    = Ideal.div (emb m c n d) (max (Ideal.sqrt (∑ k, emb m c n k * emb m c n k)) (Ideal.ofBits FTy.f32 730643660#32)) := by
  unfold emb
  unfold V V0
  after_reads_at

/-- The embedding the amplitudes are taken of. -/
theorem v14_apply (n : Fin 8192) (d : Fin 384) : (V m c main_v14 (ix2 n d) : EReal) = m (c, Proc.devRef .tc main_arg0) (ix2 n d) := by
  unfold V V0
  after_reads_at

/-- The query row. -/
theorem v16_apply (d : Fin 384) : (V m c main_v16 (ix2 0 d) : EReal) = m (c, Proc.devRef .tc main_arg1) (ix1 d) := by
  unfold V V0
  after_reads_at

/-- The first layer's weights. -/
theorem v17_apply (k : Fin 128) (d : Fin 768) : (V m c main_v17 (ix2 k d) : EReal) = m (c, Proc.devRef .tc main_arg2) (ix2 k d) := by
  unfold V V0
  after_reads_at

/-- The first layer's offsets. -/
theorem v18_apply (k : Fin 128) : (V m c main_v18 (ix2 0 k) : EReal) = m (c, Proc.devRef .tc main_arg3) (ix1 k) := by
  unfold V V0
  after_reads_at

/-- A scatter all of whose index words are zero starts every update at zero. -/
theorem start_zero {s si u : Shape} (d : ScatterDims s si u) (idx : IVec si 32) (hz : ∀ i, idx i = 0#32) (k : u.Idx) (a : Fin s.rank) :
    d.start k idx a = 0 := by
  unfold ScatterDims.start
  split
  · rw [hz]; rfl
  · rfl

/-- Five rows written from the top of an array of eight: the first five rows are those. -/
theorem scatter_rows (x : Vec Ideal S8x128 .f32) (idx : IVec S1 32) (upd : Vec Ideal S5x128 .f32) (hz : ∀ i, idx i = 0#32) (j : Fin 5) (k : Fin 128) :
    Host.scatter scatter_S8x128_S1_S5x128_01_n_0_0 (fun _ b => b) x idx upd (ix2 (⟨j.val, by omega⟩ : Fin 8) k) = upd (ix2 j k) := by
  refine Routing.scatter_set_hit _ _ _ _ _ _ (fun i hi => ?_) (ix2 j k) ?_
  · have h := (Routing.resultIdx?_eq_some _ _ _ _).mp hi
    have h0 : (0 : Int) + ((i 0).val : Int) = (j.val : Int) := (congrArg (· + ((i 0).val : Int)) (start_zero _ _ hz i 0)).symm.trans (h 0)
    have h1 : (0 : Int) + ((i 1).val : Int) = (k.val : Int) := (congrArg (· + ((i 1).val : Int)) (start_zero _ _ hz i 1)).symm.trans (h 1)
    congr 1
    funext a
    match a with
    | ⟨0, _⟩ => exact Fin.ext (by have : ((i 0).val : Int) = j.val := by omega
                                  exact_mod_cast this)
    | ⟨1, _⟩ => exact Fin.ext (by have : ((i 1).val : Int) = k.val := by omega
                                  exact_mod_cast this)
  · refine (Routing.resultIdx?_eq_some _ _ _ _).mpr fun a => ?_
    rw [start_zero _ _ hz, zero_add]
    match a with
    | ⟨0, _⟩ => rfl
    | ⟨1, _⟩ => rfl

/-- Five entries written from the left of a row of eight: the first five entries are those. -/
theorem scatter_entries (x : Vec Ideal S1x8 .f32) (idx : IVec S2 32) (upd : Vec Ideal S5 .f32) (hz : ∀ i, idx i = 0#32) (j : Fin 5) :
    Host.scatter scatter_S1x8_S2_S5_0_0_01_0 (fun _ b => b) x idx upd (ix2 (0 : Fin 1) (⟨j.val, by omega⟩ : Fin 8)) = upd (ix1 j) := by
  refine Routing.scatter_set_hit _ _ _ _ _ _ (fun i hi => ?_) (ix1 j) ?_
  · have h := (Routing.resultIdx?_eq_some _ _ _ _).mp hi
    have h1 : (0 : Int) + ((i 0).val : Int) = (j.val : Int) := (congrArg (· + ((i 0).val : Int)) (start_zero _ _ hz i 1)).symm.trans (h 1)
    congr 1
    funext a
    match a with
    | ⟨0, _⟩ => exact Fin.ext (by have : ((i 0).val : Int) = j.val := by omega
                                  exact_mod_cast this)
  · refine (Routing.resultIdx?_eq_some _ _ _ _).mpr fun a => ?_
    rw [start_zero _ _ hz, zero_add]
    match a with
    | ⟨0, _⟩ => rfl
    | ⟨1, _⟩ => rfl

/-- The second layer's weights: the first five rows are the argument's. -/
theorem v19_apply (j : Fin 5) (k : Fin 128) :
    (V m c main_v19 (ix2 (⟨j.val, by omega⟩ : Fin 8) k) : EReal) = m (c, Proc.devRef .tc main_arg4) (ix2 j k) := by
  unfold V V0
  after_reads_at
  exact scatter_rows _ _ _ (fun _ => rfl) j k

/-- The second layer's offsets: the first five are the argument's. -/
theorem v12_apply (j : Fin 5) :
    (V m c main_v12 (ix2 (0 : Fin 1) (⟨j.val, by omega⟩ : Fin 8)) : EReal) = m (c, Proc.devRef .tc main_arg5) (ix1 j) := by
  unfold V V0
  after_reads_at
  have h9 : upto (List.flatten [hostOps0, hostOps0_1]) (fun b => m (c, b)) 21 (Proc.devRef .tc main_v9)
      = broadcastInDim S1 ![] bcast_S_S1 (constantI S_ 32 0#32) := by after_reads_simp
  have h10 : upto (List.flatten [hostOps0, hostOps0_1]) (fun b => m (c, b)) 21 (Proc.devRef .tc main_v10)
      = broadcastInDim S1 ![] bcast_S_S1 (constantI S_ 32 0#32) := by after_reads_simp
  rw [h9, h10]
  refine scatter_entries _ _ _ (fun i => ?_) j
  obtain ⟨q, rfl⟩ : ∃ q : Fin 2, i = ix1 q := ⟨i 0, funext fun a => by match a with | ⟨0, _⟩ => rfl⟩
  pointwise
  exact ite_self _

end Cert.KernelHost

end
-- ==== Proof.Tail.lean ====
module

public import proofs.«01_k».proof.Proof.Gen.KernelIdeal.Frame
public import proofs.«01_k».proof.Proof.Gen.ReferenceIdeal.Run
public import Idealize.ShloMosaic.Lib.Pointwise
public import Idealize.ShloMosaic.Lib.StableHlo.ReadAt

/-!
# The host lines after the region

The lines after the region are read group by group. Each group's results are the reference's own terms when the buffers
it reads are.
-/

@[expose] public section

set_option maxRecDepth 16384

noncomputable section

namespace Cert.Tail

open Idealize.ShloMosaic Idealize.ShloMosaic.TcCoe Idealize.ShloMosaic.Tactic Idealize.SL.Sem Idealize.ShloMosaic.StableHlo
open Cert.KernelIdeal Cert.KernelIdeal.Gen

/-- A kernel device's buffers. -/
abbrev KVal := Valuation τ sig (Elt Ideal)
/-- A reference device's buffers. -/
abbrev RVal := Valuation Cert.ReferenceIdeal.τ Cert.ReferenceIdeal.sig (Elt Ideal)

variable (W : KVal) (V0 : RVal)

/-! ## The pieces the walk is made of -/

/-- The length of a whole array. -/
def norm (x : FVec Ideal S8192x5 .f32) : FVec Ideal S_ .f32 :=
  Host.sqrt (Host.reduceAdd (mulf x x) (constant S_ .f32 0x00000000#32) reducesTo_S8192x5_S_d0_1 h_S_)

/-- A state over its length, or the initial state when its length is not positive. -/
def rescaled (x init : FVec Ideal S8192x5 .f32) : FVec Ideal S8192x5 .f32 :=
  select (broadcastInDim S8192x5 ![] bcast_S_S8192x5 (cmpf .ogt (norm x) (constant S_ .f32 0x00000000#32)))
    (Host.divf x (broadcastInDim S8192x5 ![] bcast_S_S8192x5 (maximumf (norm x) (constant S_ .f32 0x0DA24260#32)))) init

/-- Index words, a negative one counted from the end, as the last axis of a triple array. -/
def wrapped (n : BitVec 32) (x : IVec S8192x5 32) : IVec S8192x5x1 32 :=
  broadcastInDim S8192x5x1 ![0, 1] bcast_S8192x5_S8192x5x1_0_1
    (select (cmpi .slt x (broadcastInDim S8192x5 ![] bcast_S_S8192x5 (constantI S_ 32 0#32)))
      (addi x (broadcastInDim S8192x5 ![] bcast_S_S8192x5 (constantI S_ 32 n))) x)

/-- The flipped state laid down at the neighbours. -/
def shifted (nbr col : IVec S8192x5 32) (x : FVec Ideal S8192x5 .f32) : FVec Ideal S8192x5 .f32 :=
  Host.scatterAdd scatter_S8192x5_S8192x5x2_S8192x5_n_01_01_2 (broadcastInDim S8192x5 ![] bcast_S_S8192x5 (constant S_ .f32 0x00000000#32))
    (concatenate S8192x5x2 2 [⟨S8192x5x1, wrapped 8192#32 nbr⟩, ⟨S8192x5x1, wrapped 5#32 col⟩] concatenates_S8192x5x1_S8192x5x1_S8192x5x2_d2) x

/-- One coin applied at every node. -/
def flipped (coin : FVec Ideal S8192x5x5 .f32) (x : FVec Ideal S8192x5 .f32) : FVec Ideal S8192x5 .f32 :=
  Host.dotGeneral dot_S8192x5x5_S8192x5_S8192x5_2_1_1_n_0_0 none coin x

/-- The sum of the products over the last axis is the contraction. -/
theorem sum_eq_flipped (a : FVec Ideal S8192x5x5 .f32) (b : FVec Ideal S8192x5 .f32) :
    Host.reduceAdd (mulf a (broadcastInDim S8192x5x5 ![0, 1, 2] bcast_S8192x1x5_S8192x5x5_0_1_2
        (broadcastInDim S8192x1x5 ![0, 2] bcast_S8192x5_S8192x1x5_0_2 b)))
      (constant S_ .f32 0x00000000#32) reducesTo_S8192x5x5_S8192x5_d2 h_S_ = flipped a b := by
  funext i
  obtain ⟨n, j, rfl⟩ : ∃ (n : Fin 8192) (j : Fin 5), i = ix2 n j := ⟨i 0, i 1, funext fun a => by match a with | ⟨0, _⟩ | ⟨1, _⟩ => rfl⟩
  pointwise [flipped]

/-! ## The lines, group by group -/

/-- The amplitudes with rows of no length replaced by ones. -/
theorem fixed (h : (W (Proc.devRef .tc main_v22) : FVec Ideal S8192x5 .f32) = Cert.ReferenceIdeal.Value.res_main_v21 V0) :
    (after (List.flatten [hostOps1_1, hostOps1_2, hostOps1_3]) W (Proc.devRef .tc main_v30) : FVec Ideal S8192x5 .f32) = Cert.ReferenceIdeal.Value.res_main_v29 V0 := by
  after_reads_simp
  simp only [TRef.toBuf, TRef.ofBuf, cast_eq]
  rw [h]
  rfl

/-- The coins. -/
theorem coins (h : (W (Proc.devRef .tc main_v30) : FVec Ideal S8192x5 .f32) = Cert.ReferenceIdeal.Value.res_main_v29 V0) : (after (List.flatten [hostOps1_4]) W (Proc.devRef .tc main_v41) : FVec Ideal S8192x5x5 .f32) = Cert.ReferenceIdeal.Value.res_main_v40 V0 := by
  after_reads_simp
  rw [h]
  rfl

/-- The initial state. -/
theorem initial : (after (List.flatten [hostOps1_4]) W (Proc.devRef .tc main_v44) : FVec Ideal S8192x5 .f32) = Cert.ReferenceIdeal.Value.res_main_v43 V0 := by
  after_reads_simp
  rfl

/-- The column numbers. -/
theorem columns : (after (List.flatten [hostOps1_4]) W (Proc.devRef .tc main_v47) : IVec S8192x5 32) = Cert.ReferenceIdeal.Value.res_main_v46 V0 := by
  after_reads_simp
  rfl

/-- The first step. -/
theorem step0 (h : (W (Proc.devRef .tc main_v30) : FVec Ideal S8192x5 .f32) = Cert.ReferenceIdeal.Value.res_main_v29 V0) (h7 : (W (Proc.devRef .tc main_v21) : IVec S8192x5 32) = Cert.ReferenceIdeal.Value.res_main_v7 V0) :
    (after (List.flatten [hostOps1_4]) W (Proc.devRef .tc main_v66) : FVec Ideal S8192x5 .f32) = Cert.ReferenceIdeal.Value.res_main_v62 V0 := by
  have e : (after (List.flatten [hostOps1_4]) W (Proc.devRef .tc main_v66) : FVec Ideal S8192x5 .f32) = shifted (W (Proc.devRef .tc main_v21)) (after (List.flatten [hostOps1_4]) W (Proc.devRef .tc main_v47))
      (Host.reduceAdd (mulf (after (List.flatten [hostOps1_4]) W (Proc.devRef .tc main_v41)) (broadcastInDim S8192x5x5 ![0, 1, 2] bcast_S8192x1x5_S8192x5x5_0_1_2
        (broadcastInDim S8192x1x5 ![0, 2] bcast_S8192x5_S8192x1x5_0_2 (after (List.flatten [hostOps1_4]) W (Proc.devRef .tc main_v44)))))
      (constant S_ .f32 0x00000000#32) reducesTo_S8192x5x5_S8192x5_d2 h_S_) := by
    after_reads_simp
    have ha : upto (List.flatten [hostOps1_4]) W 43 (Proc.devRef .tc main_v63) = wrapped 8192#32 (W (Proc.devRef .tc main_v21)) := by
      after_reads_simp
      rfl
    have hb : upto (List.flatten [hostOps1_4]) W 43 (Proc.devRef .tc main_v64) = wrapped 5#32 (broadcastInDim S8192x5 ![0, 1] bcast_S1x5_S8192x5_0_1 (broadcastInDim S1x5 ![1] bcast_S5_S1x5_1 (iotaInDim S5 32 0))) := by
      after_reads_simp
      rfl
    rw [ha, hb]
    rfl
  rw [e, sum_eq_flipped, coins W V0 h, initial W V0, columns W V0, h7]
  rfl

/-- The state rescaled after step 0. -/
theorem rescaled0 (h : (W (Proc.devRef .tc main_v66) : FVec Ideal S8192x5 .f32) = Cert.ReferenceIdeal.Value.res_main_v62 V0) (hi : (W (Proc.devRef .tc main_v44) : FVec Ideal S8192x5 .f32) = Cert.ReferenceIdeal.Value.res_main_v43 V0) :
    (after (List.flatten [hostOps1_5, hostOps1_6, hostOps1_7]) W (Proc.devRef .tc main_v72) : FVec Ideal S8192x5 .f32) = rescaled (Cert.ReferenceIdeal.Value.res_main_v62 V0) (Cert.ReferenceIdeal.Value.res_main_v43 V0) := by
  after_reads_simp
  simp only [TRef.toBuf, TRef.ofBuf, cast_eq]
  rw [h, hi]
  rfl

/-- Step 1. -/
theorem step1 (h : (W (Proc.devRef .tc main_v72) : FVec Ideal S8192x5 .f32) = rescaled (Cert.ReferenceIdeal.Value.res_main_v62 V0) (Cert.ReferenceIdeal.Value.res_main_v43 V0)) (hc : (W (Proc.devRef .tc main_v41) : FVec Ideal S8192x5x5 .f32) = Cert.ReferenceIdeal.Value.res_main_v40 V0)
    (h7 : (W (Proc.devRef .tc main_v21) : IVec S8192x5 32) = Cert.ReferenceIdeal.Value.res_main_v7 V0) (hk : (W (Proc.devRef .tc main_v47) : IVec S8192x5 32) = Cert.ReferenceIdeal.Value.res_main_v46 V0) :
    (after (List.flatten [hostOps1_8]) W (Proc.devRef .tc main_v88) : FVec Ideal S8192x5 .f32) = Cert.ReferenceIdeal.Value.res_main_v84 V0 := by
  have e : (after (List.flatten [hostOps1_8]) W (Proc.devRef .tc main_v88) : FVec Ideal S8192x5 .f32) = shifted (W (Proc.devRef .tc main_v21)) (W (Proc.devRef .tc main_v47))
      (flipped (W (Proc.devRef .tc main_v41)) (W (Proc.devRef .tc main_v72))) := by
    after_reads_simp
    have ha : upto (List.flatten [hostOps1_8]) W 19 (Proc.devRef .tc main_v85) = wrapped 8192#32 (W (Proc.devRef .tc main_v21)) := by
      after_reads_simp
      rfl
    have hb : upto (List.flatten [hostOps1_8]) W 19 (Proc.devRef .tc main_v86) = wrapped 5#32 (W (Proc.devRef .tc main_v47)) := by
      after_reads_simp
      rfl
    rw [ha, hb]
    rfl
  rw [e, h, hc, h7, hk]
  rfl

/-- The state rescaled after step 1. -/
theorem rescaled1 (h : (W (Proc.devRef .tc main_v88) : FVec Ideal S8192x5 .f32) = Cert.ReferenceIdeal.Value.res_main_v84 V0) (hi : (W (Proc.devRef .tc main_v44) : FVec Ideal S8192x5 .f32) = Cert.ReferenceIdeal.Value.res_main_v43 V0) :
    (after (List.flatten [hostOps1_9, hostOps1_10, hostOps1_11]) W (Proc.devRef .tc main_v94) : FVec Ideal S8192x5 .f32) = rescaled (Cert.ReferenceIdeal.Value.res_main_v84 V0) (Cert.ReferenceIdeal.Value.res_main_v43 V0) := by
  after_reads_simp
  simp only [TRef.toBuf, TRef.ofBuf, cast_eq]
  rw [h, hi]
  rfl

/-- Step 2. -/
theorem step2 (h : (W (Proc.devRef .tc main_v94) : FVec Ideal S8192x5 .f32) = rescaled (Cert.ReferenceIdeal.Value.res_main_v84 V0) (Cert.ReferenceIdeal.Value.res_main_v43 V0)) (hc : (W (Proc.devRef .tc main_v41) : FVec Ideal S8192x5x5 .f32) = Cert.ReferenceIdeal.Value.res_main_v40 V0)
    (h7 : (W (Proc.devRef .tc main_v21) : IVec S8192x5 32) = Cert.ReferenceIdeal.Value.res_main_v7 V0) (hk : (W (Proc.devRef .tc main_v47) : IVec S8192x5 32) = Cert.ReferenceIdeal.Value.res_main_v46 V0) :
    (after (List.flatten [hostOps1_12]) W (Proc.devRef .tc main_v110) : FVec Ideal S8192x5 .f32) = Cert.ReferenceIdeal.Value.res_main_v106 V0 := by
  have e : (after (List.flatten [hostOps1_12]) W (Proc.devRef .tc main_v110) : FVec Ideal S8192x5 .f32) = shifted (W (Proc.devRef .tc main_v21)) (W (Proc.devRef .tc main_v47))
      (flipped (W (Proc.devRef .tc main_v41)) (W (Proc.devRef .tc main_v94))) := by
    after_reads_simp
    have ha : upto (List.flatten [hostOps1_12]) W 19 (Proc.devRef .tc main_v107) = wrapped 8192#32 (W (Proc.devRef .tc main_v21)) := by
      after_reads_simp
      rfl
    have hb : upto (List.flatten [hostOps1_12]) W 19 (Proc.devRef .tc main_v108) = wrapped 5#32 (W (Proc.devRef .tc main_v47)) := by
      after_reads_simp
      rfl
    rw [ha, hb]
    rfl
  rw [e, h, hc, h7, hk]
  rfl

/-- The scores: the sums of the absolute values of the last state, rescaled. -/
theorem scores (h : (W (Proc.devRef .tc main_v110) : FVec Ideal S8192x5 .f32) = Cert.ReferenceIdeal.Value.res_main_v106 V0) (hi : (W (Proc.devRef .tc main_v44) : FVec Ideal S8192x5 .f32) = Cert.ReferenceIdeal.Value.res_main_v43 V0) :
    (after (List.flatten [hostOps1_13, hostOps1_14, hostOps1_15, hostOps1_16, hostOps1_17]) W (Proc.devRef .tc main_v118) : FVec Ideal S8192 .f32) = Host.reduceAdd (Host.absf (rescaled (Cert.ReferenceIdeal.Value.res_main_v106 V0) (Cert.ReferenceIdeal.Value.res_main_v43 V0)))
      (constant S_ .f32 0x00000000#32) reducesTo_S8192x5_S8192_d1 h_S_ := by
  after_reads_simp
  simp only [TRef.toBuf, TRef.ofBuf, cast_eq]
  rw [h, hi]
  rfl

/-- The order: the stable sort of the negated scores. -/
theorem order (h : (W (Proc.devRef .tc main_v110) : FVec Ideal S8192x5 .f32) = Cert.ReferenceIdeal.Value.res_main_v106 V0) (hi : (W (Proc.devRef .tc main_v44) : FVec Ideal S8192x5 .f32) = Cert.ReferenceIdeal.Value.res_main_v43 V0) :
    (after (List.flatten [hostOps1_13, hostOps1_14, hostOps1_15, hostOps1_16, hostOps1_17]) W (Proc.devRef .tc main_v120) : IVec S8192 32) = (Host.sort2 S8192 0 (comparator_f32_i32_d0 (F := Ideal)) (Cert.ReferenceIdeal.Value.res_main_v115 V0 : FVec Ideal S8192 .f32) (Cert.ReferenceIdeal.Value.res_main_call10_v0 V0)).2 := by
  after_reads_simp
  simp only [TRef.toBuf, TRef.ofBuf, cast_eq]
  rw [h, hi]
  rfl

end Cert.Tail

end
-- ==== Proof.Agree.lean ====
module

public import proofs.«01_k».proof.Proof.Blocks
public import proofs.«01_k».proof.Proof.RefRows
public import proofs.«01_k».proof.Proof.KernelHost
public import proofs.«01_k».proof.Proof.Tail

/-!
# From the kernel's arrays to the reference's results

The buffers of a device after the region, the neighbours and amplitudes cut out of the kernel's two arrays, and the
results after all the host lines, as the reference's own terms over arguments that agree.
-/

@[expose] public section

set_option maxRecDepth 16384

noncomputable section

namespace Cert.Agree

open Idealize.ShloMosaic Idealize.ShloMosaic.TcCoe Idealize.ShloMosaic.Tactic Idealize.SL.Sem Idealize.ShloMosaic.StableHlo
open Cert.KernelIdeal Cert.KernelIdeal.Gen

variable (m : (ℓ : Loc nD τ sig) → Buf (Elt Ideal) ℓ) (c : Dev nD) (VR : Tail.RVal)

/-- The reference's arguments are the kernel's. -/
structure Args : Prop where
  /-- The embedding. -/
  a0 : ∀ n d, (VR (Proc.devRef .tc Cert.ReferenceIdeal.main_arg0) (ix2 n d) : EReal) = m (c, Proc.devRef .tc main_arg0) (ix2 n d)
  /-- The query. -/
  a1 : ∀ d, (VR (Proc.devRef .tc Cert.ReferenceIdeal.main_arg1) (ix1 d) : EReal) = m (c, Proc.devRef .tc main_arg1) (ix1 d)
  /-- The first layer's weights. -/
  a2 : ∀ k d, (VR (Proc.devRef .tc Cert.ReferenceIdeal.main_arg2) (ix2 k d) : EReal) = m (c, Proc.devRef .tc main_arg2) (ix2 k d)
  /-- The first layer's offsets. -/
  a3 : ∀ k, (VR (Proc.devRef .tc Cert.ReferenceIdeal.main_arg3) (ix1 k) : EReal) = m (c, Proc.devRef .tc main_arg3) (ix1 k)
  /-- The second layer's weights. -/
  a4 : ∀ j k, (VR (Proc.devRef .tc Cert.ReferenceIdeal.main_arg4) (ix2 j k) : EReal) = m (c, Proc.devRef .tc main_arg4) (ix2 j k)
  /-- The second layer's offsets. -/
  a5 : ∀ j, (VR (Proc.devRef .tc Cert.ReferenceIdeal.main_arg5) (ix1 j) : EReal) = m (c, Proc.devRef .tc main_arg5) (ix1 j)

variable {m c VR}

/-- The two normalised embeddings agree. -/
theorem embn_agree (h : Args m c VR) : RefRows.embn VR = fun n d => (V m c main_v13 (ix2 n d) : EReal) := by
  funext n d
  have e : ∀ n d, RefRows.emb VR n d = KernelHost.emb m c n d := h.a0
  rw [RefRows.embn_eq, KernelHost.v13_apply]
  simp only [e]

/-- The neighbours cut out of the kernel's array are the reference's. -/
theorem nbr_agree (h : Args m c VR) : extractStridedSlice S8192x5 ![0, 0] (Blocks.nbrArr m c) slices_S8192x8_S8192x5_0_0
    = Cert.ReferenceIdeal.Value.res_main_v7 VR := by
  funext i
  obtain ⟨n, j, rfl⟩ : ∃ (n : Fin 8192) (j : Fin 5), i = ix2 n j := ⟨i 0, i 1, funext fun a => by match a with | ⟨0, _⟩ | ⟨1, _⟩ => rfl⟩
  refine Eq.trans ?_ (RefRows.v7_apply VR n j).symm
  rw [embn_agree h]
  pointwise [Blocks.nbrArr]

/-- The amplitudes cut out of the kernel's array are the reference's. -/
theorem amp_agree (h : Args m c VR) : extractStridedSlice S8192x5 ![0, 0] (Blocks.ampArr m c) slices_S8192x8_S8192x5_0_0
    = Cert.ReferenceIdeal.Value.res_main_v21 VR := by
  funext i
  obtain ⟨n, j, rfl⟩ : ∃ (n : Fin 8192) (j : Fin 5), i = ix2 n j := ⟨i 0, i 1, funext fun a => by match a with | ⟨0, _⟩ | ⟨1, _⟩ => rfl⟩
  refine Eq.trans ?_ (RefRows.v21_apply VR n j).symm
  have e : extractStridedSlice S8192x5 ![0, 0] (Blocks.ampArr m c) slices_S8192x8_S8192x5_0_0 (ix2 n j)
      = Blocks.ampArr m c (ix2 n (⟨j.val, by omega⟩ : Fin 8)) := by
    pointwise
  rw [e]
  unfold Blocks.ampArr
  show Rows.amp (fun d => (V m c main_v14 (ix2 n d) : EReal)) (fun d => (V m c main_v16 (ix2 0 d) : EReal)) (fun k d => (V m c main_v17 (ix2 k d) : EReal))
    (fun k => (V m c main_v18 (ix2 0 k) : EReal)) (fun k => (V m c main_v19 (ix2 (⟨j.val, by omega⟩ : Fin 8) k) : EReal))
    (V m c main_v12 (ix2 (0 : Fin 1) (⟨j.val, by omega⟩ : Fin 8)) : EReal) = _
  have h0 : (fun d => (V m c main_v14 (ix2 n d) : EReal)) = fun d => (VR (Proc.devRef .tc Cert.ReferenceIdeal.main_arg0) (ix2 n d) : EReal) :=
    funext fun d => (KernelHost.v14_apply m c n d).trans (h.a0 n d).symm
  have h1 : (fun d => (V m c main_v16 (ix2 0 d) : EReal)) = fun d => (VR (Proc.devRef .tc Cert.ReferenceIdeal.main_arg1) (ix1 d) : EReal) :=
    funext fun d => (KernelHost.v16_apply m c d).trans (h.a1 d).symm
  have h2 : (fun k d => (V m c main_v17 (ix2 k d) : EReal)) = fun k d => (VR (Proc.devRef .tc Cert.ReferenceIdeal.main_arg2) (ix2 k d) : EReal) :=
    funext fun k => funext fun d => (KernelHost.v17_apply m c k d).trans (h.a2 k d).symm
  have h3 : (fun k => (V m c main_v18 (ix2 0 k) : EReal)) = fun k => (VR (Proc.devRef .tc Cert.ReferenceIdeal.main_arg3) (ix1 k) : EReal) :=
    funext fun k => (KernelHost.v18_apply m c k).trans (h.a3 k).symm
  have h4 : (fun k => (V m c main_v19 (ix2 (⟨j.val, by omega⟩ : Fin 8) k) : EReal)) = fun k => (VR (Proc.devRef .tc Cert.ReferenceIdeal.main_arg4) (ix2 j k) : EReal) :=
    funext fun k => (KernelHost.v19_apply m c j k).trans (h.a4 j k).symm
  have h5 : (V m c main_v12 (ix2 (0 : Fin 1) (⟨j.val, by omega⟩ : Fin 8)) : EReal) = (VR (Proc.devRef .tc Cert.ReferenceIdeal.main_arg5) (ix1 j) : EReal) :=
    (KernelHost.v12_apply m c j).trans (h.a5 j).symm
  rw [h0, h1, h2, h3, h4, h5]

/-! ## After the region -/

variable (m c) in
/-- A device's buffers when the region ends. -/
abbrev W0 : Tail.KVal := Pipeline.withArrays (cfgs 0).spec c (V0 m c) fun w => (dats m 0 c).arrAt w (cfgs 0).N

variable (m c) in
/-- The neighbour array when the region ends. -/
theorem W0_nbr : (W0 m c (Proc.devRef .tc main_v20_0) : IVec S8192x8 32) = Blocks.nbrArr m c :=
  (Pipeline.withArrays_arr (cfgs 0).spec launch0.win.arr_inj c (V0 m c) _ 7).trans (Blocks.arr7 m c)

variable (m c) in
/-- The amplitude array when the region ends. -/
theorem W0_amp : (W0 m c (Proc.devRef .tc main_v20_1) : FVec Ideal S8192x8 .f32) = Blocks.ampArr m c :=
  (Pipeline.withArrays_arr (cfgs 0).spec launch0.win.arr_inj c (V0 m c) _ 8).trans (Blocks.arr8 m c)

/-- The lines after the region, in the groups they are read in. -/
theorem lines : (List.flatten [hostOps1, hostOps1_1, hostOps1_2, hostOps1_3, hostOps1_4, hostOps1_5, hostOps1_6, hostOps1_7, hostOps1_8, hostOps1_9,
      hostOps1_10, hostOps1_11, hostOps1_12, hostOps1_13, hostOps1_14, hostOps1_15, hostOps1_16, hostOps1_17] : List (HloOp τ sig (Elt Ideal)))
    = List.flatten [hostOps1] ++ (List.flatten [hostOps1_1, hostOps1_2, hostOps1_3] ++ (List.flatten [hostOps1_4]
      ++ (List.flatten [hostOps1_5, hostOps1_6, hostOps1_7] ++ (List.flatten [hostOps1_8] ++ (List.flatten [hostOps1_9, hostOps1_10, hostOps1_11]
      ++ (List.flatten [hostOps1_12] ++ List.flatten [hostOps1_13, hostOps1_14, hostOps1_15, hostOps1_16, hostOps1_17])))))) := rfl

section Chain

variable (m c)

/-- The buffers once the two arrays are cut. -/
def W1 : Tail.KVal := after (List.flatten [hostOps1]) (W0 m c)
/-- The buffers once the amplitudes are mended. -/
def W2 : Tail.KVal := after (List.flatten [hostOps1_1, hostOps1_2, hostOps1_3]) (W1 m c)
/-- The buffers after the first step. -/
def W3 : Tail.KVal := after (List.flatten [hostOps1_4]) (W2 m c)
/-- The buffers once the first state is rescaled. -/
def W4 : Tail.KVal := after (List.flatten [hostOps1_5, hostOps1_6, hostOps1_7]) (W3 m c)
/-- The buffers after the second step. -/
def W5 : Tail.KVal := after (List.flatten [hostOps1_8]) (W4 m c)
/-- The buffers once the second state is rescaled. -/
def W6 : Tail.KVal := after (List.flatten [hostOps1_9, hostOps1_10, hostOps1_11]) (W5 m c)
/-- The buffers after the third step. -/
def W7 : Tail.KVal := after (List.flatten [hostOps1_12]) (W6 m c)

variable {m c}

/-- The neighbours stay as they were cut until the last step. -/
theorem keep_nbr : W2 m c (Proc.devRef .tc main_v21) = W1 m c (Proc.devRef .tc main_v21)
    ∧ W4 m c (Proc.devRef .tc main_v21) = W1 m c (Proc.devRef .tc main_v21)
    ∧ W6 m c (Proc.devRef .tc main_v21) = W1 m c (Proc.devRef .tc main_v21) := by
  have h2 : W2 m c (Proc.devRef .tc main_v21) = W1 m c (Proc.devRef .tc main_v21) := by unfold W2; after_reads_simp
  have h3 : W3 m c (Proc.devRef .tc main_v21) = W2 m c (Proc.devRef .tc main_v21) := by unfold W3; after_reads_simp
  have h4 : W4 m c (Proc.devRef .tc main_v21) = W3 m c (Proc.devRef .tc main_v21) := by unfold W4; after_reads_simp
  have h5 : W5 m c (Proc.devRef .tc main_v21) = W4 m c (Proc.devRef .tc main_v21) := by unfold W5; after_reads_simp
  have h6 : W6 m c (Proc.devRef .tc main_v21) = W5 m c (Proc.devRef .tc main_v21) := by unfold W6; after_reads_simp
  exact ⟨h2, h4.trans (h3.trans h2), h6.trans (h5.trans (h4.trans (h3.trans h2)))⟩

/-- So do the coins, the column numbers and the initial state, once made. -/
theorem keep_made (b : Ref sig .tc) (hb : b = main_v41 ∨ b = main_v47 ∨ b = main_v44) :
    W4 m c (Proc.devRef .tc b) = W3 m c (Proc.devRef .tc b) ∧ W5 m c (Proc.devRef .tc b) = W3 m c (Proc.devRef .tc b)
    ∧ W6 m c (Proc.devRef .tc b) = W3 m c (Proc.devRef .tc b) ∧ W7 m c (Proc.devRef .tc b) = W3 m c (Proc.devRef .tc b) := by
  have h4 : W4 m c (Proc.devRef .tc b) = W3 m c (Proc.devRef .tc b) := by
    unfold W4; rcases hb with rfl | rfl | rfl <;> after_reads_simp
  have h5 : W5 m c (Proc.devRef .tc b) = W4 m c (Proc.devRef .tc b) := by
    unfold W5; rcases hb with rfl | rfl | rfl <;> after_reads_simp
  have h6 : W6 m c (Proc.devRef .tc b) = W5 m c (Proc.devRef .tc b) := by
    unfold W6; rcases hb with rfl | rfl | rfl <;> after_reads_simp
  have h7 : W7 m c (Proc.devRef .tc b) = W6 m c (Proc.devRef .tc b) := by
    unfold W7; rcases hb with rfl | rfl | rfl <;> after_reads_simp
  exact ⟨h4, h5.trans h4, h6.trans (h5.trans h4), h7.trans (h6.trans (h5.trans h4))⟩

/-- After the last step: the state is the reference's, and so is the initial state. -/
theorem last_step (h : Args m c VR) :
    (W7 m c (Proc.devRef .tc main_v110) : FVec Ideal S8192x5 .f32) = Cert.ReferenceIdeal.Value.res_main_v106 VR
    ∧ (W7 m c (Proc.devRef .tc main_v44) : FVec Ideal S8192x5 .f32) = Cert.ReferenceIdeal.Value.res_main_v43 VR := by
  have n1 : (W1 m c (Proc.devRef .tc main_v21) : IVec S8192x5 32) = Cert.ReferenceIdeal.Value.res_main_v7 VR := by
    unfold W1
    after_reads_simp
    rw [W0_nbr m c]
    exact nbr_agree h
  have a1 : (W1 m c (Proc.devRef .tc main_v22) : FVec Ideal S8192x5 .f32) = Cert.ReferenceIdeal.Value.res_main_v21 VR := by
    unfold W1
    after_reads_simp
    rw [W0_amp m c]
    exact amp_agree h
  have f2 := Tail.fixed (W1 m c) VR a1
  have n2 := keep_nbr.1.trans n1
  have n4 := keep_nbr.2.1.trans n1
  have n6 := keep_nbr.2.2.trans n1
  have c3 := Tail.coins (W2 m c) VR f2
  have i3 := Tail.initial (W2 m c) VR
  have k3 := Tail.columns (W2 m c) VR
  have kc := keep_made (m := m) (c := c) main_v41 (Or.inl rfl)
  have kk := keep_made (m := m) (c := c) main_v47 (Or.inr (Or.inl rfl))
  have ki := keep_made (m := m) (c := c) main_v44 (Or.inr (Or.inr rfl))
  have s3 := Tail.step0 (W2 m c) VR f2 n2
  have s4 := Tail.rescaled0 (W3 m c) VR s3 i3
  have s5 := Tail.step1 (W4 m c) VR s4 (kc.1.trans c3) n4 (kk.1.trans k3)
  have s6 := Tail.rescaled1 (W5 m c) VR s5 (ki.2.1.trans i3)
  exact ⟨Tail.step2 (W6 m c) VR s6 (kc.2.2.1.trans c3) n6 (kk.2.2.1.trans k3), ki.2.2.2.trans i3⟩

/-- All the lines after the region are the last group's after the buffers of the last step. -/
theorem all_lines : after (List.flatten [hostOps1, hostOps1_1, hostOps1_2, hostOps1_3, hostOps1_4, hostOps1_5, hostOps1_6, hostOps1_7, hostOps1_8, hostOps1_9,
      hostOps1_10, hostOps1_11, hostOps1_12, hostOps1_13, hostOps1_14, hostOps1_15, hostOps1_16, hostOps1_17]) (W0 m c)
    = after (List.flatten [hostOps1_13, hostOps1_14, hostOps1_15, hostOps1_16, hostOps1_17]) (W7 m c) := by
  rw [lines]
  simp only [after_append]
  rfl

/-- The scores the kernel ends with are the reference's. -/
theorem scores_agree (h : Args m c VR) : (Pipeline.afterTail₀ cfgs (dats m) 0 (V0 m) [hostOps1, hostOps1_1, hostOps1_2, hostOps1_3, hostOps1_4, hostOps1_5,
      hostOps1_6, hostOps1_7, hostOps1_8, hostOps1_9, hostOps1_10, hostOps1_11, hostOps1_12, hostOps1_13, hostOps1_14, hostOps1_15, hostOps1_16,
      hostOps1_17] c main_v118 : FVec Ideal S8192 .f32)
    = Host.reduceAdd (Host.absf (Tail.rescaled (Cert.ReferenceIdeal.Value.res_main_v106 VR) (Cert.ReferenceIdeal.Value.res_main_v43 VR)))
        (constant S_ .f32 0x00000000#32) reducesTo_S8192x5_S8192_d1 h_S_ :=
  (congrFun all_lines (Proc.devRef .tc main_v118)).trans (Tail.scores (W7 m c) VR (last_step h).1 (last_step h).2)

/-- The order the kernel ends with is the reference's. -/
theorem order_agree (h : Args m c VR) : (Pipeline.afterTail₀ cfgs (dats m) 0 (V0 m) [hostOps1, hostOps1_1, hostOps1_2, hostOps1_3, hostOps1_4, hostOps1_5,
      hostOps1_6, hostOps1_7, hostOps1_8, hostOps1_9, hostOps1_10, hostOps1_11, hostOps1_12, hostOps1_13, hostOps1_14, hostOps1_15, hostOps1_16,
      hostOps1_17] c main_v120 : IVec S8192 32)
    = (Host.sort2 S8192 0 (comparator_f32_i32_d0 (F := Ideal)) (Cert.ReferenceIdeal.Value.res_main_v115 VR) (Cert.ReferenceIdeal.Value.res_main_call10_v0 VR)).2 :=
  (congrFun all_lines (Proc.devRef .tc main_v120)).trans (Tail.order (W7 m c) VR (last_step h).1 (last_step h).2)

end Chain

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Picks
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every run of the reference ends with the arguments unchanged and every semaphore counter at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Read over extended reals, the kernel and the reference end with equal scores and equal orders, from any memories that
    agree on the arguments, and with the arguments unchanged. -/
theorem algebraic : Cert.algebraic_KernelIdeal_ReferenceIdeal := by
  intro m g m' g' _ hag
  have args : ∀ c, Cert.Agree.Args m c (StableHlo.launchContents m' c) := fun c =>
    ⟨fun n d => congrFun (hag c).1 (ix2 n d), fun d => congrFun (hag c).2.1 (ix1 d), fun k d => congrFun (hag c).2.2.1 (ix2 k d),
      fun k => congrFun (hag c).2.2.2.1 (ix1 k), fun j k => congrFun (hag c).2.2.2.2.1 (ix2 j k), fun j => congrFun (hag c).2.2.2.2.2 (ix1 j)⟩
  refine ⟨_, _, ?_, (θ_run Cert.ReferenceIdeal.defs _ _).mono (fun r h c => h c) (Cert.ReferenceIdeal.Value.run (F := Ideal) m' g')⟩
  refine (θ_run Cert.KernelIdeal.defs _ _).mono (fun r h c => ?_) (Cert.KernelIdeal.Gen.run_main (F := Ideal) m g)
  refine ⟨((h c).2 Cert.KernelIdeal.main_v118 (Pipeline.mem_restRefs_of _ (by decide) (by decide))).trans (Cert.Agree.scores_agree (args c)),
    ((h c).2 Cert.KernelIdeal.main_v120 (Pipeline.mem_restRefs_of _ (by decide) (by decide))).trans (Cert.Agree.order_agree (args c)),
    ((h c).2 Cert.KernelIdeal.main_arg0 (Pipeline.mem_restRefs_of _ (by decide) (by decide))).trans (Cert.KernelIdeal.Gen.W_main_arg0 m (Cert.KernelIdeal.Gen.dats m) c),
    ((h c).2 Cert.KernelIdeal.main_arg1 (Pipeline.mem_restRefs_of _ (by decide) (by decide))).trans (Cert.KernelIdeal.Gen.W_main_arg1 m (Cert.KernelIdeal.Gen.dats m) c),
    ((h c).2 Cert.KernelIdeal.main_arg2 (Pipeline.mem_restRefs_of _ (by decide) (by decide))).trans (Cert.KernelIdeal.Gen.W_main_arg2 m (Cert.KernelIdeal.Gen.dats m) c),
    ((h c).2 Cert.KernelIdeal.main_arg3 (Pipeline.mem_restRefs_of _ (by decide) (by decide))).trans (Cert.KernelIdeal.Gen.W_main_arg3 m (Cert.KernelIdeal.Gen.dats m) c),
    ((h c).2 Cert.KernelIdeal.main_arg4 (Pipeline.mem_restRefs_of _ (by decide) (by decide))).trans (Cert.KernelIdeal.Gen.W_main_arg4 m (Cert.KernelIdeal.Gen.dats m) c),
    ((h c).2 Cert.KernelIdeal.main_arg5 (Pipeline.mem_restRefs_of _ (by decide) (by decide))).trans (Cert.KernelIdeal.Gen.W_main_arg5 m (Cert.KernelIdeal.Gen.dats m) c)⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
